-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_root_dim" .f32 0x3D3504F3#32 (((Real.sqrt 512)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x512 : Shape := ⟨3, ![16, 128, 512]⟩
abbrev S16x1024x512 : Shape := ⟨3, ![16, 1024, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S16x1x1152 : Shape := ⟨3, ![16, 1, 1152]⟩
abbrev S1x128x512 : Shape := ⟨3, ![1, 128, 512]⟩
abbrev S1x1024x512 : Shape := ⟨3, ![1, 1024, 512]⟩
abbrev S1x1x1152 : Shape := ⟨3, ![1, 1, 1152]⟩
abbrev S128x512 : Shape := ⟨2, ![128, 512]⟩
abbrev S1024x512 : Shape := ⟨2, ![1024, 512]⟩
abbrev S1152x512 : Shape := ⟨2, ![1152, 512]⟩
abbrev S128 : Shape := ⟨1, ![128]⟩
abbrev S128x1 : Shape := ⟨2, ![128, 1]⟩
abbrev S1152 : Shape := ⟨1, ![1152]⟩
abbrev S1152x1 : Shape := ⟨2, ![1152, 1]⟩
abbrev S512x1152 : Shape := ⟨2, ![512, 1152]⟩
abbrev S128x1152 : Shape := ⟨2, ![128, 1152]⟩
abbrev S1x1152 : Shape := ⟨2, ![1, 1152]⟩
abbrev S64x1152 : Shape := ⟨2, ![64, 1152]⟩
abbrev S16x1152 : Shape := ⟨2, ![16, 1152]⟩

abbrev nBuf : Space → Nat
  | .hbm => 9
  | .vmem => 10
  | .smem => 0
  | _ => 0

abbrev bufTy : (tb : Table) → Fin (tcTables nBuf tb) → BufTy
  | .hbm, ⟨0, _⟩ => ⟨S16x128x512, .f32⟩
  | .hbm, ⟨1, _⟩ => ⟨S16x1024x512, .f32⟩
  | .hbm, ⟨2, _⟩ => ⟨S512x1, .f32⟩
  | .hbm, ⟨3, _⟩ => ⟨S1, .f32⟩
  | .hbm, ⟨4, _⟩ => ⟨S1x512, .f32⟩
  | .hbm, ⟨5, _⟩ => ⟨S1x1, .f32⟩
  | .hbm, ⟨6, _⟩ => ⟨S16x128x512, .f32⟩
  | .hbm, ⟨7, _⟩ => ⟨S16x1x1152, .i32⟩
  | .hbm, ⟨8, _⟩ => ⟨S16x1152, .i32⟩
  | .local _ .vmem, ⟨0, _⟩ => ⟨S1x128x512, .f32⟩
  | .local _ .vmem, ⟨1, _⟩ => ⟨S1x128x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512, .f32⟩
  | .local _ .vmem, ⟨5, _⟩ => ⟨S1x1, .f32⟩
  | .local _ .vmem, ⟨6, _⟩ => ⟨S1x128x512, .f32⟩
  | .local _ .vmem, ⟨7, _⟩ => ⟨S1x128x512, .f32⟩
  | .local _ .vmem, ⟨8, _⟩ => ⟨S1x1x1152, .i32⟩
  | .local _ .vmem, ⟨9, _⟩ => ⟨S1x1x1152, .i32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1152 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_root_dim" => some (((Real.sqrt 512)⁻¹ : ℝ) : EReal)
  | _ => none
-- ==== ReferenceIdeal.lean ====
abbrev S16x128x512 : Shape := ⟨3, ![16, 128, 512]⟩
abbrev S16x1024x512 : Shape := ⟨3, ![16, 1024, 512]⟩
abbrev S512x1 : Shape := ⟨2, ![512, 1]⟩
abbrev S1 : Shape := ⟨1, ![1]⟩
abbrev S16x1152x512 : Shape := ⟨3, ![16, 1152, 512]⟩
abbrev S16x1152x1 : Shape := ⟨3, ![16, 1152, 1]⟩
abbrev S1x1x1 : Shape := ⟨3, ![1, 1, 1]⟩
abbrev S_ : Shape := ⟨0, ![]⟩
abbrev S16x128 : Shape := ⟨2, ![16, 128]⟩
abbrev S16x128x1 : Shape := ⟨3, ![16, 128, 1]⟩
abbrev S16x1152 : Shape := ⟨2, ![16, 1152]⟩
abbrev S16x1x1152 : Shape := ⟨3, ![16, 1, 1152]⟩
abbrev S16x128x1152 : Shape := ⟨3, ![16, 128, 1152]⟩
abbrev S16x2x64x1152 : Shape := ⟨4, ![16, 2, 64, 1152]⟩
abbrev S16x1152x2x64 : Shape := ⟨4, ![16, 1152, 2, 64]⟩
abbrev S16x1152x2 : Shape := ⟨3, ![16, 1152, 2]⟩
abbrev S16 : Shape := ⟨1, ![16]⟩
abbrev S16x1 : Shape := ⟨2, ![16, 1]⟩
abbrev S16x1152x1x1 : Shape := ⟨4, ![16, 1152, 1, 1]⟩
abbrev S1x1x1x1 : Shape := ⟨4, ![1, 1, 1, 1]⟩
abbrev S18432 : Shape := ⟨1, ![18432]⟩
abbrev S2048x1 : Shape := ⟨2, ![2048, 1]⟩
abbrev S18432x1 : Shape := ⟨2, ![18432, 1]⟩
abbrev S2048x512 : Shape := ⟨2, ![2048, 512]⟩
abbrev S18432x512 : Shape := ⟨2, ![18432, 512]⟩

abbrev nBuf : Space → Nat
  | .hbm => 185
  | .vmem => 0
  | .smem => 0
  | _ => 0

abbrev hbmTy0_0 (i : Nat) : BufTy := match i % 128 with
  | 0 => ⟨S16x128x512, .f32⟩
  | 1 => ⟨S16x1024x512, .f32⟩
  | 2 => ⟨S512x1, .f32⟩
  | 3 => ⟨S1, .f32⟩
  | 4 => ⟨S16x1152x512, .f32⟩
  | 5 => ⟨S16x1152x1, .f32⟩
  | 6 => ⟨S1x1x1, .f32⟩
  | 7 => ⟨S16x1152x1, .f32⟩
  | 8 => ⟨S16x1152x1, .f32⟩
  | 9 => ⟨S16x1152x1, .f32⟩
  | 10 => ⟨S16x1152x1, .f32⟩
  | 11 => ⟨S_, .f32⟩
  | 12 => ⟨S16x1152x1, .f32⟩
  | 13 => ⟨S16x1152x1, .f32⟩
  | 14 => ⟨S_, .f32⟩
  | 15 => ⟨S16x1152x1, .f32⟩
  | 16 => ⟨S16x1152x1, .f32⟩
  | 17 => ⟨S16x128x512, .f32⟩
  | 18 => ⟨S_, .f32⟩
  | 19 => ⟨S16x128, .f32⟩
  | 20 => ⟨S16x128x1, .f32⟩
  | 21 => ⟨S16x1152x512, .f32⟩
  | 22 => ⟨S_, .f32⟩
  | 23 => ⟨S16x1152, .f32⟩
  | 24 => ⟨S16x1x1152, .f32⟩
  | 25 => ⟨S16x128x1152, .f32⟩
  | 26 => ⟨S16x128x1152, .f32⟩
  | 27 => ⟨S16x128x1152, .f32⟩
  | 28 => ⟨S16x128x1152, .f32⟩
  | 29 => ⟨S_, .f32⟩
  | 30 => ⟨S16x128x1152, .f32⟩
  | 31 => ⟨S16x128x1152, .f32⟩
  | 32 => ⟨S16x128x1152, .f32⟩
  | 33 => ⟨S_, .f32⟩
  | 34 => ⟨S_, .f32⟩
  | 35 => ⟨S16x128x1152, .f32⟩
  | 36 => ⟨S16x128x1152, .f32⟩
  | 37 => ⟨S16x128x1152, .f32⟩
  | 38 => ⟨S_, .f32⟩
  | 39 => ⟨S_, .f32⟩
  | 40 => ⟨S16x128x1152, .f32⟩
  | 41 => ⟨S16x128x1152, .f32⟩
  | 42 => ⟨S16x128x1152, .i32⟩
  | 43 => ⟨S_, .f32⟩
  | 44 => ⟨S_, .i32⟩
  | 45 => ⟨S16x1152, .f32⟩
  | 46 => ⟨S16x1152, .i32⟩
  | 47 => ⟨S16x2x64x1152, .f32⟩
  | 48 => ⟨S16x1152x2x64, .f32⟩
  | 49 => ⟨S16x1152x2x64, .f32⟩
  | 50 => ⟨S16x1152x2x64, .f32⟩
  | 51 => ⟨S_, .f32⟩
  | 52 => ⟨S16x1152x2, .f32⟩
  | 53 => ⟨S_, .f32⟩
  | 54 => ⟨S16x1152x2, .f32⟩
  | 55 => ⟨S16x1152x2, .f32⟩
  | 56 => ⟨S_, .f32⟩
  | 57 => ⟨S16x1152, .f32⟩
  | 58 => ⟨S_, .f32⟩
  | 59 => ⟨S16x1152, .f32⟩
  | 60 => ⟨S16x1152, .f32⟩
  | 61 => ⟨S16x1152x1, .f32⟩
  | 62 => ⟨S16x1152x2, .f32⟩
  | 63 => ⟨S16x1152x2, .f32⟩
  | 64 => ⟨S16, .i32⟩
  | 65 => ⟨S16x1, .i32⟩
  | 66 => ⟨S_, .i32⟩
  | 67 => ⟨S16x1, .i32⟩
  | 68 => ⟨S16x1, .i32⟩
  | 69 => ⟨S16x1152, .i32⟩
  | 70 => ⟨S16x1152, .i32⟩
  | 71 => ⟨S_, .i32⟩
  | 72 => ⟨S_, .i32⟩
  | 73 => ⟨S16x1152, .i32⟩
  | 74 => ⟨S16x1152, .i32⟩
  | 75 => ⟨S16x1152, .i32⟩
  | 76 => ⟨S_, .i32⟩
  | 77 => ⟨S16x1152, .i32⟩
  | 78 => ⟨S16x1152, .i1⟩
  | 79 => ⟨S16x1152, .i32⟩
  | 80 => ⟨S16x1152, .i32⟩
  | 81 => ⟨S_, .i32⟩
  | 82 => ⟨S16x1152, .i32⟩
  | 83 => ⟨S16x1152, .i1⟩
  | 84 => ⟨S16x1152, .i1⟩
  | 85 => ⟨S_, .i32⟩
  | 86 => ⟨S16x1152, .i32⟩
  | 87 => ⟨S16x1152, .i32⟩
  | 88 => ⟨S16x1152, .i32⟩
  | 89 => ⟨S16x1152x1, .i32⟩
  | 90 => ⟨S_, .i32⟩
  | 91 => ⟨S16x1152x1, .i32⟩
  | 92 => ⟨S16x1152x1, .i1⟩
  | 93 => ⟨S_, .i32⟩
  | 94 => ⟨S16x1152x1, .i32⟩
  | 95 => ⟨S16x1152x1, .i32⟩
  | 96 => ⟨S16x1152x1, .i32⟩
  | 97 => ⟨S16x1152x1x1, .i32⟩
  | 98 => ⟨S1, .i32⟩
  | 99 => ⟨S_, .i32⟩
  | 100 => ⟨S16x1152x1x1, .i32⟩
  | 101 => ⟨S16x1152x1x1, .i1⟩
  | 102 => ⟨S1x1x1x1, .i32⟩
  | 103 => ⟨S16x1152x1x1, .i32⟩
  | 104 => ⟨S16x1152x1x1, .i1⟩
  | 105 => ⟨S16x1152x1x1, .i1⟩
  | 106 => ⟨S_, .i1⟩
  | 107 => ⟨S16x1152x1, .i1⟩
  | 108 => ⟨S16x1152x1, .f32⟩
  | 109 => ⟨S_, .f32⟩
  | 110 => ⟨S16x1152x1, .f32⟩
  | 111 => ⟨S16x1152x1, .f32⟩
  | 112 => ⟨S18432, .i32⟩
  | 113 => ⟨S_, .f32⟩
  | 114 => ⟨S2048x1, .f32⟩
  | 115 => ⟨S18432x1, .f32⟩
  | 116 => ⟨S_, .i32⟩
  | 117 => ⟨S18432, .i32⟩
  | 118 => ⟨S18432, .i1⟩
  | 119 => ⟨S_, .i32⟩
  | 120 => ⟨S18432, .i32⟩
  | 121 => ⟨S18432, .i32⟩
  | 122 => ⟨S18432, .i32⟩
  | 123 => ⟨S18432x1, .i32⟩
  | 124 => ⟨S2048x1, .f32⟩
  | 125 => ⟨S_, .f32⟩
  | 126 => ⟨S2048x1, .f32⟩
  | 127 => ⟨S2048x1, .f32⟩
  | _ => ⟨S16x128x512, .f32⟩

abbrev hbmTy0_1 (i : Nat) : BufTy := match i % 128 with
  | 0 => ⟨S_, .i32⟩
  | 1 => ⟨S16x1152, .i32⟩
  | 2 => ⟨S16x1152, .i1⟩
  | 3 => ⟨S_, .i32⟩
  | 4 => ⟨S16x1152, .i32⟩
  | 5 => ⟨S16x1152, .i32⟩
  | 6 => ⟨S16x1152, .i32⟩
  | 7 => ⟨S16x1152x1, .i32⟩
  | 8 => ⟨S16x1152x1, .f32⟩
  | 9 => ⟨S16x1152x1, .f32⟩
  | 10 => ⟨S_, .f32⟩
  | 11 => ⟨S2048x1, .f32⟩
  | 12 => ⟨S18432x1, .f32⟩
  | 13 => ⟨S_, .i32⟩
  | 14 => ⟨S18432, .i32⟩
  | 15 => ⟨S18432, .i1⟩
  | 16 => ⟨S_, .i32⟩
  | 17 => ⟨S18432, .i32⟩
  | 18 => ⟨S18432, .i32⟩
  | 19 => ⟨S18432, .i32⟩
  | 20 => ⟨S18432x1, .i32⟩
  | 21 => ⟨S2048x1, .f32⟩
  | 22 => ⟨S_, .f32⟩
  | 23 => ⟨S2048x1, .f32⟩
  | 24 => ⟨S2048x1, .f32⟩
  | 25 => ⟨S_, .i32⟩
  | 26 => ⟨S16x1152, .i32⟩
  | 27 => ⟨S16x1152, .i1⟩
  | 28 => ⟨S_, .i32⟩
  | 29 => ⟨S16x1152, .i32⟩
  | 30 => ⟨S16x1152, .i32⟩
  | 31 => ⟨S16x1152, .i32⟩
  | 32 => ⟨S16x1152x1, .i32⟩
  | 33 => ⟨S16x1152x1, .f32⟩
  | 34 => ⟨S16x1152x1, .f32⟩
  | 35 => ⟨S_, .f32⟩
  | 36 => ⟨S16x1152x1, .f32⟩
  | 37 => ⟨S16x1152x1, .f32⟩
  | 38 => ⟨S_, .f32⟩
  | 39 => ⟨S16x1152x1, .f32⟩
  | 40 => ⟨S16x1152x1, .f32⟩
  | 41 => ⟨S16x1152x1, .f32⟩
  | 42 => ⟨S16x1152x512, .f32⟩
  | 43 => ⟨S16x1152x512, .f32⟩
  | 44 => ⟨S_, .f32⟩
  | 45 => ⟨S2048x512, .f32⟩
  | 46 => ⟨S18432x512, .f32⟩
  | 47 => ⟨S_, .i32⟩
  | 48 => ⟨S18432, .i32⟩
  | 49 => ⟨S18432, .i1⟩
  | 50 => ⟨S_, .i32⟩
  | 51 => ⟨S18432, .i32⟩
  | 52 => ⟨S18432, .i32⟩
  | 53 => ⟨S18432, .i32⟩
  | 54 => ⟨S18432x1, .i32⟩
  | 55 => ⟨S2048x512, .f32⟩
  | 56 => ⟨S16x128x512, .f32⟩
  | _ => ⟨S16x128x512, .f32⟩

abbrev hbmTy (i : Nat) : BufTy := match i / 128 with
  | 0 => hbmTy0_0 i
  | 1 => hbmTy0_1 i
  | _ => ⟨S16x128x512, .f32⟩

abbrev bufTy : (tb : Table) → Fin (tcTables nBuf tb) → BufTy
  | .hbm, ⟨i, _⟩ => hbmTy i
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_call1_cst : Ref sig .tc := ⟨.hbm, 43, rfl⟩
abbrev main_call1_c : Ref sig .tc := ⟨.hbm, 44, rfl⟩
abbrev main_call1_v1_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v49 : Ref sig .tc := ⟨.hbm, 88, rfl⟩
abbrev main_v50 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v51 : Ref sig .tc := ⟨.hbm, 111, rfl⟩
abbrev main_v52 : Ref sig .tc := ⟨.hbm, 112, rfl⟩
abbrev main_cst_11 : Ref sig .tc := ⟨.hbm, 113, rfl⟩
abbrev main_v53 : Ref sig .tc := ⟨.hbm, 114, rfl⟩
abbrev main_v54 : Ref sig .tc := ⟨.hbm, 115, rfl⟩
abbrev main_c_12 : Ref sig .tc := ⟨.hbm, 116, rfl⟩
abbrev main_v55 : Ref sig .tc := ⟨.hbm, 117, rfl⟩
abbrev main_v56 : Ref sig .tc := ⟨.hbm, 118, rfl⟩
abbrev main_c_13 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_14 : Ref sig .tc := ⟨.hbm, 125, rfl⟩
abbrev main_v62 : Ref sig .tc := ⟨.hbm, 126, rfl⟩
abbrev main_v63 : Ref sig .tc := ⟨.hbm, 127, rfl⟩
abbrev main_c_15 : Ref sig .tc := ⟨.hbm, 128, rfl⟩
abbrev main_v64 : Ref sig .tc := ⟨.hbm, 129, rfl⟩
abbrev main_v65 : Ref sig .tc := ⟨.hbm, 130, rfl⟩
abbrev main_c_16 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_17 : Ref sig .tc := ⟨.hbm, 138, rfl⟩
abbrev main_v72 : Ref sig .tc := ⟨.hbm, 139, rfl⟩
abbrev main_v73 : Ref sig .tc := ⟨.hbm, 140, rfl⟩
abbrev main_c_18 : Ref sig .tc := ⟨.hbm, 141, rfl⟩
abbrev main_v74 : Ref sig .tc := ⟨.hbm, 142, rfl⟩
abbrev main_v75 : Ref sig .tc := ⟨.hbm, 143, rfl⟩
abbrev main_c_19 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_20 : Ref sig .tc := ⟨.hbm, 150, rfl⟩
abbrev main_v81 : Ref sig .tc := ⟨.hbm, 151, rfl⟩
abbrev main_v82 : Ref sig .tc := ⟨.hbm, 152, rfl⟩
abbrev main_c_21 : Ref sig .tc := ⟨.hbm, 153, rfl⟩
abbrev main_v83 : Ref sig .tc := ⟨.hbm, 154, rfl⟩
abbrev main_v84 : Ref sig .tc := ⟨.hbm, 155, rfl⟩
abbrev main_c_22 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_cst_23 : Ref sig .tc := ⟨.hbm, 163, rfl⟩
abbrev main_v91 : Ref sig .tc := ⟨.hbm, 164, rfl⟩
abbrev main_v92 : Ref sig .tc := ⟨.hbm, 165, rfl⟩
abbrev main_cst_24 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_cst_25 : Ref sig .tc := ⟨.hbm, 172, rfl⟩
abbrev main_v98 : Ref sig .tc := ⟨.hbm, 173, rfl⟩
abbrev main_v99 : Ref sig .tc := ⟨.hbm, 174, rfl⟩
abbrev main_c_26 : Ref sig .tc := ⟨.hbm, 175, rfl⟩
abbrev main_v100 : Ref sig .tc := ⟨.hbm, 176, rfl⟩
abbrev main_v101 : Ref sig .tc := ⟨.hbm, 177, rfl⟩
abbrev main_c_27 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩

abbrev nD : Nat := 1
abbrev τ : Topo := Topo.v7x

variable {F : FTy → Type} [FloatOps F]
-- ==== Proof.Model.lean ====
/- The merge of one batch's tokens into its prototypes, written over plain functions of extended reals. Both programs are read as these functions:
   the kernel block by block (Proof/Block.lean), the reference stage by stage (Proof/Stages.lean). -/
module

public import Idealize.ShloMosaic.Lib.Pointwise
public import Idealize.ShloMosaic.Lib.IdealHost
public import Idealize.ShloMosaic.Lib.WordCmp

@[expose] public section

noncomputable section

namespace Cert.Merge

open Idealize.ShloMosaic

/-! ## The first smallest of 128 values -/

/-- The rows at which `f` is smallest: at least one. -/
theorem least_nonempty (f : Fin 128 → EReal) : (Finset.univ.filter fun q => ∀ r, f q ≤ f r).Nonempty := by
  obtain ⟨q, hq⟩ := Finite.exists_min f
  exact ⟨q, Finset.mem_filter.2 ⟨Finset.mem_univ _, hq⟩⟩

/-- The first row at which `f` is smallest. -/
def first (f : Fin 128 → EReal) : Fin 128 := (Finset.univ.filter fun q => ∀ r, f q ≤ f r).min' (least_nonempty f)

/-- No value is below the one at the first smallest row. -/
theorem first_le (f : Fin 128 → EReal) (r : Fin 128) : f (first f) ≤ f r :=
  (Finset.mem_filter.1 (Finset.min'_mem _ (least_nonempty f))).2 r

/-- A row at which `f` is smallest is not before the first one. -/
theorem first_le_of (f : Fin 128 → EReal) (q : Fin 128) (h : ∀ r, f q ≤ f r) : first f ≤ q :=
  Finset.min'_le _ _ (Finset.mem_filter.2 ⟨Finset.mem_univ _, h⟩)

/-- A row at which `f` is smallest, and which is before every other such row, is the first one. -/
theorem eq_first (f : Fin 128 → EReal) (q : Fin 128) (h : ∀ r, f q ≤ f r) (h' : ∀ r, (∀ s, f r ≤ f s) → q ≤ r) : q = first f :=
  le_antisymm (h' _ (first_le f)) (first_le_of f q h)

/-- The minimum of the 128 values, begun at plus infinity, is the value at the first smallest row. -/
theorem fold_min_eq (f : Fin 128 → EReal) : Finset.fold min ⊤ f Finset.univ = f (first f) := by
  apply le_antisymm
  · exact (Finset.fold_min_le _).2 (Or.inr ⟨first f, Finset.mem_univ _, le_rfl⟩)
  · exact (Finset.le_fold_min _).2 ⟨le_top, fun r _ => first_le f r⟩

/-- The smaller of two words, read signed, is the smaller of what they read. -/
theorem toInt_minsi (x y : BitVec 32) : (IntOp.minsi x y).toInt = min x.toInt y.toInt := by
  unfold IntOp.minsi
  split
  · next h =>
    rw [BitVec.slt_eq_decide, decide_eq_true_eq] at h
    omega
  · next h =>
    rw [BitVec.slt_eq_decide, decide_eq_true_eq] at h
    omega

/-- A fold of signed minima, read signed, is the fold of the minima. -/
theorem toInt_fold_minsi (b : BitVec 32) (g : Fin 128 → BitVec 32) (s : Finset (Fin 128)) :
    (Finset.fold IntOp.minsi b g s).toInt = Finset.fold min b.toInt (fun q => (g q).toInt) s := by
  classical
  induction s using Finset.induction_on with
  | empty => rfl
  | insert a s ha ih => rw [Finset.fold_insert ha, Finset.fold_insert ha, toInt_minsi, ih]

/-- A row number's word, read signed, is the row number. -/
theorem toInt_row (q : Fin 128) : (BitVec.ofNat 32 q.val).toInt = (q.val : Int) := by
  have := q.isLt
  rw [BitVec.toInt_eq_toNat_of_lt (by rw [BitVec.toNat_ofNat]; omega), BitVec.toNat_ofNat]
  omega

/-- The smallest row number among the rows that hold the minimum (128 standing at the others) is the first smallest row. -/
theorem fold_minsi_eq (f : Fin 128 → EReal) :
    Finset.fold IntOp.minsi 2147483647#32 (fun q : Fin 128 => if f q = f (first f) then BitVec.ofNat 32 q.val else 128#32) Finset.univ
      = BitVec.ofNat 32 (first f).val := by
  apply BitVec.eq_of_toInt_eq
  rw [toInt_fold_minsi, toInt_row]
  have hk := (first f).isLt
  apply le_antisymm
  · exact (Finset.fold_min_le _).2 (Or.inr ⟨first f, Finset.mem_univ _, by rw [if_pos rfl, toInt_row]⟩)
  · refine (Finset.le_fold_min _).2 ⟨?_, fun r _ => ?_⟩
    · have : (2147483647#32).toInt = 2147483647 := by decide
      omega
    · split
      · next h =>
        rw [toInt_row]
        have := first_le_of f r fun s => h ▸ first_le f s
        exact_mod_cast this
      · have : (128#32).toInt = 128 := by decide
        omega

/-! ## The constants -/

/-- The factor 2 of the cross term. -/
abbrev two : EReal := Ideal.ofBits .f32 0x40000000#32
/-- The 10⁻⁶ added to each total. -/
abbrev tiny : EReal := Ideal.ofBits .f32 0x358637BD#32
/-- The weight one half of each of the two scores. -/
abbrev half : EReal := Ideal.ofBits .f32 0x3F000000#32
/-- One sixty-fourth: a class holds 64 prototypes. -/
abbrev share : EReal := Ideal.ofBits .f32 0x3C800000#32
/-- `1 / √512`. -/
abbrev invRoot : EReal := (((Real.sqrt 512)⁻¹ : ℝ) : EReal)

/-- The pattern of plus infinity. -/
theorem ofBits_top : Ideal.ofBits .f32 0x7F800000#32 = ⊤ := by
  simp [Ideal.ofBits, Ideal.ieee]

/-- The pattern of one half. -/
theorem half_eq : half = ((1 / 2 : ℝ) : EReal) := by
  simp [half, Ideal.ofBits, Ideal.ieee, -EReal.coe_mul]; norm_num

/-- The pattern of one sixty-fourth. -/
theorem share_eq : share = ((1 / 64 : ℝ) : EReal) := by
  simp [share, Ideal.ofBits, Ideal.ieee, -EReal.coe_mul]; norm_num

/-- The pattern of 64. -/
theorem ofBits_64 : Ideal.ofBits .f32 0x42800000#32 = ((64 : ℝ) : EReal) := by
  simp [Ideal.ofBits, Ideal.ieee, -EReal.coe_mul]; norm_num

/-- The pattern of 512. -/
theorem ofBits_512 : Ideal.ofBits .f32 0x44000000#32 = ((512 : ℝ) : EReal) := by
  simp [Ideal.ofBits, Ideal.ieee, -EReal.coe_mul]; norm_num

/-- Division by 64 is multiplication by one sixty-fourth. -/
theorem div_64 (x : EReal) : Ideal.div x (Ideal.ofBits .f32 0x42800000#32) = x * share := by
  rw [ofBits_64, Ideal.div_coe (by norm_num), share_eq]

/-- Division by the root of 512 is multiplication by `1 / √512`. -/
theorem div_root (x : EReal) : Ideal.div x (Ideal.sqrt (Ideal.ofBits .f32 0x44000000#32)) = x * invRoot := by
  rw [ofBits_512, Ideal.sqrt_coe]
  rw [if_neg (by norm_num : ¬ (512 : ℝ) < 0), Ideal.div_coe (Real.sqrt_pos.mpr (by norm_num)).ne', one_div]

/-- One half comes out of a quotient, whatever the divisor. -/
theorem half_div (a g : EReal) : Ideal.div (half * a) g = half * Ideal.div a g := by
  unfold Ideal.div
  have hp : (0 : ℝ) < 1 / 2 := by norm_num
  by_cases hg : g = 0
  · rw [if_pos hg, if_pos hg, half_eq]
    have e : 0 < ((1 / 2 : ℝ) : EReal) * a ↔ 0 < a := by
      induction a using EReal.rec with
      | bot => rw [EReal.coe_mul_bot_of_pos hp]
      | top => rw [EReal.coe_mul_top_of_pos hp]
      | coe x =>
        rw [← EReal.coe_mul]
        constructor
        · intro h
          have h' : 0 < (1 / 2 : ℝ) * x := by exact_mod_cast h
          exact_mod_cast (by linarith : 0 < x)
        · intro h
          have h' : 0 < x := by exact_mod_cast h
          exact_mod_cast (by linarith : 0 < (1 / 2 : ℝ) * x)
    by_cases ha : 0 < a
    · rw [if_pos ha, if_pos (e.2 ha), EReal.coe_mul_top_of_pos hp]
    · rw [if_neg ha, if_neg fun h => ha (e.1 h), EReal.coe_mul_bot_of_pos hp]
  · rw [if_neg hg, if_neg hg, mul_assoc]

/-! ## The merge of one batch -/

/-- A batch's 1152 tokens: its 128 prototypes, then its 1024 features. -/
def tokens (p : Fin 128 → Fin 512 → EReal) (x0 : Fin 1024 → Fin 512 → EReal) (n : Fin 1152) (k : Fin 512) : EReal :=
  if h : n.val < 128 then p ⟨n.val, h⟩ k else x0 ⟨n.val - 128, by have := n.isLt; omega⟩ k

/-- The scaled distance of prototype `q` and token `n`. -/
def dist (p : Fin 128 → Fin 512 → EReal) (x : Fin 1152 → Fin 512 → EReal) (q : Fin 128) (n : Fin 1152) : EReal :=
  Ideal.sqrt (max ((∑ k, p q k * p q k) + (∑ k, x n k * x n k) - two * ∑ k, p q k * x n k) 0) * invRoot

/-- The prototype nearest to token `n`, the first one where several are equally near. -/
def near (D : Fin 128 → Fin 1152 → EReal) (n : Fin 1152) : Fin 128 := first fun q => D q n

/-- Prototype `i` of class `h`. -/
def member (h : Fin 2) (i : Fin 64) : Fin 128 := ⟨h.val * 64 + i.val, by have := h.isLt; have := i.isLt; omega⟩

/-- The mean, over the prototypes of class `h`, of the exponential of minus token `n`'s distance. -/
def affinity (D : Fin 128 → Fin 1152 → EReal) (n : Fin 1152) (h : Fin 2) : EReal := (∑ i, Ideal.exp (0 - D (member h i) n)) * share

/-- The class of prototype `q`. -/
def classOf (q : Fin 128) : Fin 2 := ⟨q.val / 64, by have := q.isLt; omega⟩

/-- Token `n`'s share of its nearest prototype's class. -/
def classWeight (D : Fin 128 → Fin 1152 → EReal) (n : Fin 1152) : EReal :=
  Ideal.div (affinity D n (classOf (near D n))) (affinity D n 0 + affinity D n 1 + tiny)

/-- Token `n`'s score: a sigmoid of a linear form. -/
def score (x : Fin 1152 → Fin 512 → EReal) (w : Fin 512 → EReal) (b : EReal) (n : Fin 1152) : EReal :=
  Ideal.div 1 (1 + Ideal.exp (0 - ((∑ k, x n k * w k) + b)))

/-- The sum of `a` over the tokens sent to prototype `q`. -/
def collect (K : Fin 1152 → Fin 128) (a : Fin 1152 → EReal) (q : Fin 128) : EReal := ∑ n, if K n = q then a n else 0

/-- `a` over its total at the token's own prototype. -/
def normed (K : Fin 1152 → Fin 128) (a : Fin 1152 → EReal) (n : Fin 1152) : EReal := Ideal.div (a n) (collect K a (K n) + tiny)

/-- The merged prototypes: each the sum of its tokens, weighted. -/
def merged (K : Fin 1152 → Fin 128) (c s : Fin 1152 → EReal) (x : Fin 1152 → Fin 512 → EReal) (q : Fin 128) (k : Fin 512) : EReal :=
  collect K (fun n => x n k * (half * normed K c n + half * normed K s n)) q

/-! ## The two results, over the four arguments -/

/-- Batch `b`'s tokens. -/
abbrev batchTokens (P : Fin 16 → Fin 128 → Fin 512 → EReal) (X : Fin 16 → Fin 1024 → Fin 512 → EReal) (b : Fin 16) : Fin 1152 → Fin 512 → EReal :=
  tokens (P b) (X b)

/-- Batch `b`'s distances. -/
abbrev batchDist (P : Fin 16 → Fin 128 → Fin 512 → EReal) (X : Fin 16 → Fin 1024 → Fin 512 → EReal) (b : Fin 16) : Fin 128 → Fin 1152 → EReal :=
  dist (P b) (batchTokens P X b)

/-- Entry `(b, q, k)` of the merged prototypes. -/
def mergedAt (P : Fin 16 → Fin 128 → Fin 512 → EReal) (X : Fin 16 → Fin 1024 → Fin 512 → EReal) (W : Fin 512 → EReal) (β : EReal)
    (b : Fin 16) (q : Fin 128) (k : Fin 512) : EReal :=
  merged (near (batchDist P X b)) (classWeight (batchDist P X b)) (score (batchTokens P X b) W β) (batchTokens P X b) q k

/-- Entry `(b, n)` of the indices: the nearest prototype's number, as a word. -/
def indexAt (P : Fin 16 → Fin 128 → Fin 512 → EReal) (X : Fin 16 → Fin 1024 → Fin 512 → EReal) (b : Fin 16) (n : Fin 1152) : BitVec 32 :=
  BitVec.ofNat 32 (near (batchDist P X b) n).val

/-! ## Sums of one-hot rows -/

/-- A sum over the prototypes of a one-hot row times `g` is `g` at the hot prototype. -/
theorem sum_onehot (g : Fin 128 → EReal) (K : Fin 128) : (∑ q, (if q = K then (1 : EReal) else 0) * g q) = g K := by
  rw [Finset.sum_eq_single K]
  · rw [if_pos rfl, one_mul]
  · intro q _ h; rw [if_neg h, zero_mul]
  · intro h; exact (h (Finset.mem_univ _)).elim

/-- A sum of the tokens' one-hot entries times `a` collects `a` over the tokens sent there. -/
theorem sum_hot (K : Fin 1152 → Fin 128) (a : Fin 1152 → EReal) (q : Fin 128) :
    (∑ n, (if q = K n then (1 : EReal) else 0) * a n) = collect K a q := by
  refine Finset.sum_congr rfl fun n _ => ?_
  by_cases h : q = K n
  · rw [if_pos h, if_pos h.symm, one_mul]
  · rw [if_neg h, if_neg fun e => h e.symm, zero_mul]

end Cert.Merge

end
-- ==== Proof.Block.lean ====
/- What one grid point of the kernel computes, from the blocks it reads: each value the body names, read at an index, is the corresponding
   function of Proof/Model.lean of the block's rows. -/
module

public import proofs.«01_k».proof.Proof.Gen.KernelIdeal.Frame
public import proofs.«01_k».proof.Proof.Model

@[expose] public section

set_option maxRecDepth 16384

noncomputable section

namespace Cert.KernelIdeal.Block

open Idealize.ShloMosaic Idealize.SL.Sem Cert.KernelIdeal Cert.KernelIdeal.Gen Cert.Merge

/-- The rows of a prototype block. -/
abbrev rowsP (v0 : Vec Ideal S1x128x512 .f32) (q : Fin 128) (k : Fin 512) : EReal := v0 (ix3 0 q k)
/-- The rows of a feature block. -/
abbrev rowsX (v2 : Vec Ideal S1x1024x512 .f32) (n : Fin 1024) (k : Fin 512) : EReal := v2 (ix3 0 n k)
/-- A block's tokens. -/
abbrev toks (v0 : Vec Ideal S1x128x512 .f32) (v2 : Vec Ideal S1x1024x512 .f32) : Fin 1152 → Fin 512 → EReal := tokens (rowsP v0) (rowsX v2)
/-- A block's distances. -/
abbrev dists (v0 : Vec Ideal S1x128x512 .f32) (v2 : Vec Ideal S1x1024x512 .f32) : Fin 128 → Fin 1152 → EReal := dist (rowsP v0) (toks v0 v2)

/-- The row of prototype number `q`, counted down the block. -/
abbrev rowNo : IVec S128x1152 32 := iota .tc S128x1152 32 [0] iota_S128x1152_d0_w32

/-- The joined block holds the tokens. -/
theorem tokens_apply (v0 : Vec Ideal S1x128x512 .f32) (v2 : Vec Ideal S1x1024x512 .f32) (n : Fin 1152) (k : Fin 512) :
    k0_pay4 v0 v2 (ix2 n k) = toks v0 v2 n k := by
  pointwise [k0_pay4, k0_pay3]
  rfl

/-- The named constant is `1 / √512`. -/
theorem named_invRoot : (Named.named κ "inv_root_dim" 0x3D3504F3#32 : Ideal .f32) = invRoot :=
  IdealRules.named_const.ideal_named_scalar _ _ _ _ rfl

/-- The distance block. -/
theorem dist_apply (v0 : Vec Ideal S1x128x512 .f32) (v2 : Vec Ideal S1x1024x512 .f32) (q : Fin 128) (n : Fin 1152) :
    k0_pay5 v0 v2 (ix2 q n) = dists v0 v2 q n := by
  pointwise [k0_pay5, k0_pay3]
  simp only [tokens_apply, named_invRoot]
  rfl

/-- The index row holds each token's nearest prototype. -/
theorem near_apply (v0 : Vec Ideal S1x128x512 .f32) (v2 : Vec Ideal S1x1024x512 .f32) (n : Fin 1152) :
    k0_pay6 v0 v2 (ix2 0 n) = BitVec.ofNat 32 (near (dists v0 v2) n).val := by
  pointwise [k0_pay6]
  simp only [dist_apply, ofBits_top]
  rw [fold_min_eq fun q => dists v0 v2 q n]
  exact fold_minsi_eq fun q => dists v0 v2 q n

/-- The first class's affinities before the share. -/
theorem first_apply (v0 : Vec Ideal S1x128x512 .f32) (v2 : Vec Ideal S1x1024x512 .f32) (n : Fin 1152) :
    k0_pay8 v0 v2 (ix2 0 n) = ∑ i, Ideal.exp (0 - dists v0 v2 (member 0 i) n) := by
  pointwise [k0_pay8, k0_pay7]
  refine Finset.sum_congr rfl fun i _ => ?_
  rw [dist_apply]
  congr 3
  exact Fin.ext (by show i.val = 0 * 64 + i.val; omega)

/-- The class test on a prototype's number. -/
theorem class_test (q : Fin 128) (a b : EReal) :
    Scalar.select (IntOp.cmpi .slt (BitVec.ofNat 32 q.val) 64#32) a b = if q.val < 64 then a else b := by
  have e : IntOp.cmpi .slt (BitVec.ofNat 32 q.val) 64#32 = BitVec.ofBool (decide (q.val < 64)) := by
    show BitVec.ofBool ((BitVec.ofNat 32 q.val).slt 64#32) = _
    rw [BitVec.slt_eq_decide, toInt_row]
    have : (64#32).toInt = 64 := by decide
    rw [this]
    congr 1
    exact decide_eq_decide.2 (by omega)
  rw [e]
  by_cases h : q.val < 64
  · rw [if_pos h, decide_eq_true h]; rfl
  · rw [if_neg h, decide_eq_false h]; rfl

/-- The class weights. -/
theorem classWeight_apply (v0 : Vec Ideal S1x128x512 .f32) (v2 : Vec Ideal S1x1024x512 .f32) (n : Fin 1152) :
    k0_pay10 (k0_pay6 v0 v2) (k0_pay7 v0 v2) (k0_pay8 v0 v2) k0_pay9 (ix2 0 n) = classWeight (dists v0 v2) n := by
  pointwise [k0_pay10, k0_pay9, k0_pay7]
  have h0 : (∑ i, Ideal.exp (0 - dists v0 v2 (member 0 i) n)) * share = affinity (dists v0 v2) n 0 := rfl
  have h1 : (∑ x : Fin 64, Ideal.exp (0 - k0_pay5 v0 v2 (ix2 (⟨64 + x.val, by have := x.isLt; omega⟩ : Fin 128) n))) * share
      = affinity (dists v0 v2) n 1 := by
    refine congrArg (· * share) (Finset.sum_congr rfl fun i _ => ?_)
    rw [dist_apply]
    rfl
  rw [near_apply, first_apply, h1, h0, class_test]
  unfold classWeight
  congr 1
  have hk := (near (dists v0 v2) n).isLt
  split
  · next h => rw [show classOf (near (dists v0 v2) n) = 0 from Fin.ext (Nat.div_eq_of_lt h)]
  · next h => rw [show classOf (near (dists v0 v2) n) = 1 from Fin.ext (by show (near (dists v0 v2) n).val / 64 = 1; omega)]

/-- The scores. -/
theorem score_apply (v0 : Vec Ideal S1x128x512 .f32) (v2 : Vec Ideal S1x1024x512 .f32) (w : Vec Ideal S1x512 .f32) (b : Vec Ideal S1x1 .f32) (n : Fin 1152) :
    k0_pay11 (k0_pay4 v0 v2) w b (ix2 0 n) = score (toks v0 v2) (fun k => w (ix2 0 k)) (b (ix2 0 0)) n := by
  pointwise [k0_pay11]
  simp only [tokens_apply]
  rfl

/-- The one-hot mask of the index row. -/
theorem mask_apply (v0 : Vec Ideal S1x128x512 .f32) (v2 : Vec Ideal S1x1024x512 .f32) (q : Fin 128) (n : Fin 1152) :
    k0_pay12 (F := Ideal) rowNo (k0_pay6 v0 v2) (ix2 q n) = if q = near (dists v0 v2) n then 1 else 0 := by
  pointwise [k0_pay12]
  rw [near_apply]
  have e : ∀ c : BitVec 1, (FloatOps.sitofp .f32 (BitVec.setWidth 32 c) : Ideal .f32) = if c = 1#1 then (1 : EReal) else 0 := by
    intro c
    show (((BitVec.setWidth 32 c).toInt : ℝ) : EReal) = _
    rcases BitVec.eq_zero_or_eq_one c with rfl | rfl
    · rw [if_neg (by decide), show (BitVec.setWidth 32 0#1).toInt = 0 by decide]; norm_num
    · rw [if_pos rfl, show (BitVec.setWidth 32 1#1).toInt = 1 by decide]; norm_num
  rw [e]
  refine if_congr ?_ rfl rfl
  show BitVec.ofBool (BitVec.ofNat 32 q.val == BitVec.ofNat 32 (near (dists v0 v2) n).val) = 1#1 ↔ _
  constructor
  · intro h
    have hb : (BitVec.ofNat 32 q.val == BitVec.ofNat 32 (near (dists v0 v2) n).val) = true := by
      revert h; generalize (BitVec.ofNat 32 q.val == BitVec.ofNat 32 (near (dists v0 v2) n).val) = c; revert c; decide
    have ht := congrArg BitVec.toInt (eq_of_beq hb)
    rw [toInt_row, toInt_row] at ht
    exact Fin.ext (by exact_mod_cast ht)
  · intro h
    rw [h, beq_self_eq_true]; rfl

/-- Each prototype's total of the class weights. -/
theorem totalC_apply (v0 : Vec Ideal S1x128x512 .f32) (v2 : Vec Ideal S1x1024x512 .f32) (q : Fin 128) :
    k0_pay13 rowNo (k0_pay6 v0 v2) (k0_pay7 v0 v2) (k0_pay8 v0 v2) k0_pay9 (ix2 q 0)
      = collect (near (dists v0 v2)) (classWeight (dists v0 v2)) q + tiny := by
  pointwise [k0_pay13]
  simp only [mask_apply, classWeight_apply]
  rw [sum_hot]

/-- Each prototype's total of the scores, before the small constant. -/
theorem totalS_apply (v0 : Vec Ideal S1x128x512 .f32) (v2 : Vec Ideal S1x1024x512 .f32) (w : Vec Ideal S1x512 .f32) (b : Vec Ideal S1x1 .f32) (q : Fin 128) :
    k0_pay14 (k0_pay4 v0 v2) rowNo (k0_pay6 v0 v2) w b (ix2 q 0)
      = collect (near (dists v0 v2)) (score (toks v0 v2) (fun k => w (ix2 0 k)) (b (ix2 0 0))) q := by
  pointwise [k0_pay14]
  simp only [mask_apply, score_apply]
  rw [sum_hot]

/-- The block the body stores: the merged prototypes. -/
theorem merged_apply (v0 : Vec Ideal S1x128x512 .f32) (v2 : Vec Ideal S1x1024x512 .f32) (w : Vec Ideal S1x512 .f32) (b : Vec Ideal S1x1 .f32)
    (q : Fin 128) (k : Fin 512) :
    k0_pay1 (k0_pay4 v0 v2) (k0_pay10 (k0_pay6 v0 v2) (k0_pay7 v0 v2) (k0_pay8 v0 v2) k0_pay9) (k0_pay11 (k0_pay4 v0 v2) w b)
        (k0_pay12 (F := Ideal) rowNo (k0_pay6 v0 v2)) (k0_pay13 rowNo (k0_pay6 v0 v2) (k0_pay7 v0 v2) (k0_pay8 v0 v2) k0_pay9)
        (k0_pay14 (k0_pay4 v0 v2) rowNo (k0_pay6 v0 v2) w b) (ix3 0 q k)
      = merged (near (dists v0 v2)) (classWeight (dists v0 v2)) (score (toks v0 v2) (fun k => w (ix2 0 k)) (b (ix2 0 0))) (toks v0 v2) q k := by
  pointwise [k0_pay1]
  simp only [mask_apply, classWeight_apply, score_apply, totalC_apply, totalS_apply, tokens_apply, sum_onehot, half_div, mul_assoc]
  rw [sum_hot]
  unfold merged
  refine congrArg (fun a => collect _ a q) (funext fun n => ?_)
  rw [mul_comm]
  rfl

/-- The index block the body stores. -/
theorem index_apply (v0 : Vec Ideal S1x128x512 .f32) (v2 : Vec Ideal S1x1024x512 .f32) (n : Fin 1152) :
    k0_pay2 (k0_pay6 v0 v2) (ix3 0 0 n) = BitVec.ofNat 32 (near (dists v0 v2) n).val := by
  rw [← near_apply]
  pointwise [k0_pay2]

end Cert.KernelIdeal.Block

end
-- ==== Proof.Final.lean ====
/- The kernel's two result arrays after the run, over its four arguments: every grid point writes one batch's blocks, and the blocks tile the arrays. -/
module

public import proofs.«01_k».proof.Proof.Block
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Block Cert.Merge

variable (m : (ℓ : Loc nD τ sig) → Buf (Elt Ideal) ℓ)

/-- The prototypes. -/
abbrev argP (c : Dev nD) (b : Fin 16) (q : Fin 128) (k : Fin 512) : EReal := (m ((c : Thread nD τ).loc main_arg0) : Vec Ideal S16x128x512 .f32) (ix3 b q k)
/-- The features. -/
abbrev argX (c : Dev nD) (b : Fin 16) (n : Fin 1024) (k : Fin 512) : EReal := (m ((c : Thread nD τ).loc main_arg1) : Vec Ideal S16x1024x512 .f32) (ix3 b n k)
/-- The score's linear form. -/
abbrev argW (c : Dev nD) (k : Fin 512) : EReal := (m ((c : Thread nD τ).loc main_arg2) : Vec Ideal S512x1 .f32) (ix2 k 0)
/-- The score's constant. -/
abbrev argB (c : Dev nD) : EReal := (m ((c : Thread nD τ).loc main_arg3) : Vec Ideal S1 .f32) (ix1 0)

/-- Every window's block index at every point. -/
theorem idx : ∀ t : Fin cfg0.N, win0_0.index t = ![t.val, 0, 0] ∧ win0_1.index t = ![t.val, 0, 0] ∧ win0_2.index t = ![0, 0] ∧ win0_3.index t = ![0, 0]
    ∧ win0_4.index t = ![t.val, 0, 0] ∧ win0_5.index t = ![t.val, 0, 0] :=
  (by decide +kernel : ∀ t : Fin grid0.N, _)

/-- The batch of a grid point. -/
def bat (t : Fin cfg0.N) : Fin 16 := ⟨t.val, by have := t.isLt; have h : cfg0.N = 16 := N_0; omega⟩

/-- The prototype block of a point is its batch's prototypes. -/
theorem read0 (c : Dev nD) (t : Fin cfg0.N) (q : Fin 128) (k : Fin 512) : iblk m c 0 t (ix3 0 q k) = argP m c (bat t) q k := by
  blk_ext [iblk, V, idx t, bat]

/-- The feature block of a point is its batch's features. -/
theorem read1 (c : Dev nD) (t : Fin cfg0.N) (n : Fin 1024) (k : Fin 512) : iblk m c 1 t (ix3 0 n k) = argX m c (bat t) n k := by
  blk_ext [iblk, V, idx t, bat]

/-- Every point's block of the linear form is the whole form, laid out as a row. -/
theorem read2 (c : Dev nD) (t : Fin cfg0.N) (k : Fin 512) : iblk m c 2 t (ix2 0 k) = argW m c k := by
  have e : V m c main_v0 = shapeCast S1x512 (m ((c : Thread nD τ).loc main_arg2) : Vec Ideal S512x1 .f32) shapeCasts_S512x1_S1x512 := rfl
  have h : iblk m c 2 t (ix2 0 k) = (V m c main_v0 : Vec Ideal S1x512 .f32) (ix2 0 k) := by
    blk_ext [iblk, idx t]
  rw [h, e]
  pointwise

/-- Every point's block of the constant is the constant. -/
theorem read3 (c : Dev nD) (t : Fin cfg0.N) : iblk m c 3 t (ix2 0 0) = argB m c := by
  have e : V m c main_v1 = shapeCast S1x1 (m ((c : Thread nD τ).loc main_arg3) : Vec Ideal S1 .f32) shapeCasts_S1_S1x1 := rfl
  have h : iblk m c 3 t (ix2 0 0) = (V m c main_v1 : Vec Ideal S1x1 .f32) (ix2 0 0) := by
    blk_ext [iblk, idx t]
  rw [h, e]
  pointwise

/-- A point's distances are its batch's. -/
theorem dists_eq (c : Dev nD) (t : Fin cfg0.N) : dists (iblk m c 0 t) (iblk m c 1 t) = batchDist (argP m c) (argX m c) (bat t) := by
  have h0 : rowsP (iblk m c 0 t) = argP m c (bat t) := funext fun q => funext fun k => read0 m c t q k
  have h1 : rowsX (iblk m c 1 t) = argX m c (bat t) := funext fun n => funext fun k => read1 m c t n k
  unfold dists toks batchDist batchTokens
  rw [h0, h1]

/-- A point's tokens are its batch's. -/
theorem toks_eq (c : Dev nD) (t : Fin cfg0.N) : toks (iblk m c 0 t) (iblk m c 1 t) = batchTokens (argP m c) (argX m c) (bat t) := by
  have h0 : rowsP (iblk m c 0 t) = argP m c (bat t) := funext fun q => funext fun k => read0 m c t q k
  have h1 : rowsX (iblk m c 1 t) = argX m c (bat t) := funext fun n => funext fun k => read1 m c t n k
  unfold toks batchTokens
  rw [h0, h1]

/-- The merged prototypes as an array. -/
def outArr (c : Dev nD) : Vec Ideal S16x128x512 .f32 := fun j => mergedAt (argP m c) (argX m c) (argW m c) (argB m c) (j 0) (j 1) (j 2)

/-- The indices as the array the region writes, one row per batch. -/
def idxArr (c : Dev nD) : Vec Ideal S16x1x1152 .i32 := fun j => indexAt (argP m c) (argX m c) (j 0) (j 2)

/-- Where a point's block of merged prototypes sits in the array. -/
theorem emb_out (t : Fin cfg0.N) (q : Fin 128) (k : Fin 512) : ((cfg0.win 4).blk t).view.emb (ix3 0 q k) = ix3 (bat t) q k := by
  blk_ext [idx t, bat]

/-- Where a point's row of indices sits in the array. -/
theorem emb_idx (t : Fin cfg0.N) (n : Fin 1152) : ((cfg0.win 5).blk t).view.emb (ix3 0 0 n) = ix3 (bat t) 0 n := by
  blk_ext [idx t, bat]

/-- The merged prototypes' array after the run. -/
theorem final_out (c : Dev nD) : (dats m 0 c).arrAt 4 (cfgs 0).N = outArr m c := by
  refine (dats m 0 c).arrAt_eq_of_covers 4 _ (by decide +kernel) fun t _ y => ?_
  blk_simp
  rw [after0_4]
  unfold_out out0_4
  frame_out
  obtain ⟨q, k, rfl⟩ : ∃ (q : Fin 128) (k : Fin 512), y = ix3 0 q k :=
    ⟨y 1, y 2, (eq_ix3 (n0 := 1) (n1 := 128) (n2 := 512) y).trans (congrArg (fun a => ix3 a (y 1) (y 2)) (Subsingleton.elim (α := Fin 1) _ _))⟩
  refine (merged_apply (iblk m c 0 t) (iblk m c 1 t) (iblk m c 2 t) (iblk m c 3 t) q k).trans ?_
  have hw : (fun k => iblk m c 2 t (ix2 0 k)) = argW m c := funext fun k => read2 m c t k
  rw [dists_eq, toks_eq, read3 m c t, hw]
  exact (congrArg (outArr m c) (emb_out t q k)).symm

/-- The index array after the region. -/
theorem final_idx (c : Dev nD) : (dats m 0 c).arrAt 5 (cfgs 0).N = idxArr m c := by
  refine (dats m 0 c).arrAt_eq_of_covers 5 _ (by decide +kernel) fun t _ y => ?_
  blk_simp
  rw [after0_5]
  unfold_out out0_5
  frame_out
  obtain ⟨n, rfl⟩ : ∃ n : Fin 1152, y = ix3 0 0 n :=
    ⟨y 2, (eq_ix3 (n0 := 1) (n1 := 1) (n2 := 1152) y).trans ((congrArg (fun a => ix3 a (y 1) (y 2)) (Subsingleton.elim (α := Fin 1) _ _)).trans
      (congrArg (fun a => ix3 0 a (y 2)) (Subsingleton.elim (α := Fin 1) _ _)))⟩
  refine (index_apply (iblk m c 0 t) (iblk m c 1 t) n).trans ?_
  rw [dists_eq]
  exact (congrArg (idxArr m c) (emb_idx t n)).symm

/-- The second result: the index array, its axis of one row dropped. -/
theorem final_idx2 (c : Dev nD) : Pipeline.afterTail₀ cfgs (dats m) 0 (V0 m) [hostOps1] c main_v3
    = fun j : S16x1152.Idx => indexAt (argP m c) (argX m c) (j 0) (j 1) := by
  have e : Pipeline.afterTail₀ cfgs (dats m) 0 (V0 m) [hostOps1] c main_v3
      = shapeCast S16x1152 (Pipeline.withArrays (cfgs 0).spec c (V0 m c) (fun w => (dats m 0 c).arrAt w (cfgs 0).N)
          (Proc.devRef .tc main_v2_1) : Vec Ideal S16x1x1152 .i32) shapeCasts_S16x1x1152_S16x1152 := rfl
  rw [e, show Pipeline.withArrays (cfgs 0).spec c (V0 m c) (fun w => (dats m 0 c).arrAt w (cfgs 0).N) (Proc.devRef .tc main_v2_1)
    = idxArr m c from (Pipeline.withArrays_arr (cfgs 0).spec launch0.win.arr_inj c _ _ 5).trans (final_idx m c)]
  funext j
  obtain ⟨b, n, rfl⟩ : ∃ (b : Fin 16) (n : Fin 1152), j = ix2 b n := ⟨j 0, j 1, eq_ix2 j⟩
  have h : shapeCast S16x1152 (idxArr m c) shapeCasts_S16x1x1152_S16x1152 (ix2 b n) = idxArr m c (ix3 b 0 n) := by
    pointwise
  exact h

end Cert.KernelIdeal.Final

end
-- ==== Proof.Stages.lean ====
/- The reference's computation in stages: each definition is a run of its operations as one function of the tensors it starts from.
   `Proof/RefRun.lean` shows that the run's results are these stages composed; `Proof/Read.lean` reads each at an index. -/
module

public import proofs.«01_k».proof.Proof.Gen.ReferenceIdeal
public import proofs.«01_k».proof.Proof.Model

@[expose] public section

set_option maxRecDepth 16384

noncomputable section

namespace Cert.ReferenceIdeal.Stages

open Idealize.ShloMosaic Idealize.SL.Sem Cert.ReferenceIdeal Cert.ReferenceIdeal.Gen

/-- The tokens: the prototypes and the features joined. -/
def joined (P : FVec Ideal S16x128x512 .f32) (X : FVec Ideal S16x1024x512 .f32) : FVec Ideal S16x1152x512 .f32 :=
  concatenate S16x1152x512 1 [⟨S16x128x512, P⟩, ⟨S16x1024x512, X⟩] concatenates_S16x128x512_S16x1024x512_S16x1152x512_d1

/-- The scores. -/
def scores (T : FVec Ideal S16x1152x512 .f32) (W : FVec Ideal S512x1 .f32) (B : FVec Ideal S1 .f32) : FVec Ideal S16x1152x1 .f32 :=
  have v1 : FVec Ideal S16x1152x1 .f32 := Host.dotGeneral dot_S16x1152x512_S512x1_S16x1152x1_2_0_01_1_n_n none T W
  have v3 : FVec Ideal S16x1152x1 .f32 := broadcastInDim S16x1152x1 ![0, 1, 2] bcast_S1x1x1_S16x1152x1_0_1_2 (broadcastInDim S1x1x1 ![2] bcast_S1_S1x1x1_2 B)
  have v6 : FVec Ideal S16x1152x1 .f32 := Host.exp (Host.negf (addf v1 v3))
  have one : FVec Ideal S16x1152x1 .f32 := broadcastInDim S16x1152x1 ![] bcast_S_S16x1152x1 (constant (F := Ideal) S_ .f32 0x3F800000#32)
  Host.divf one (addf one v6)

/-- The scaled distances. -/
def distances (P : FVec Ideal S16x128x512 .f32) (T : FVec Ideal S16x1152x512 .f32) : FVec Ideal S16x128x1152 .f32 :=
  have v12 : FVec Ideal S16x128 .f32 := Host.reduceAdd (mulf P P) (constant S_ .f32 0x00000000#32) reducesTo_S16x128x512_S16x128_d2 h_S_
  have v17 : FVec Ideal S16x128x1152 .f32 := broadcastInDim S16x128x1152 ![0, 1, 2] bcast_S16x128x1_S16x128x1152_0_1_2
    (broadcastInDim S16x128x1 ![0, 1] bcast_S16x128_S16x128x1_0_1 v12)
  have v15 : FVec Ideal S16x1152 .f32 := Host.reduceAdd (mulf T T) (constant S_ .f32 0x00000000#32) reducesTo_S16x1152x512_S16x1152_d2 h_S_
  have v18 : FVec Ideal S16x128x1152 .f32 := broadcastInDim S16x128x1152 ![0, 1, 2] bcast_S16x1x1152_S16x128x1152_0_1_2
    (broadcastInDim S16x1x1152 ![0, 2] bcast_S16x1152_S16x1x1152_0_2 v15)
  have v20 : FVec Ideal S16x128x1152 .f32 := Host.dotGeneral dot_S16x128x512_S16x1152x512_S16x128x1152_2_2_1_1_0_0 none P T
  have v21 : FVec Ideal S16x128x1152 .f32 := broadcastInDim S16x128x1152 ![] bcast_S_S16x128x1152 (constant (F := Ideal) S_ .f32 0x40000000#32)
  have v23 : FVec Ideal S16x128x1152 .f32 := subf (addf v17 v18) (mulf v21 v20)
  have v24 : FVec Ideal S16x128x1152 .f32 :=
    maximumf (broadcastInDim S16x128x1152 ![] bcast_S_S16x128x1152 (constant (F := Ideal) S_ .f32 0x00000000#32)) v23
  Host.divf (Host.sqrt v24) (broadcastInDim S16x128x1152 ![] bcast_S_S16x128x1152 (Host.sqrt (constant (F := Ideal) S_ .f32 0x44000000#32)))

/-- The nearest prototypes' numbers. -/
def nearest (D : FVec Ideal S16x128x1152 .f32) : IVec S16x1152 32 := fun j =>
  (Host.argReduce reducer_argmin_f32_i32 D (iotaInDim S16x128x1152 32 1) (constant S_ .f32 0x7F800000#32) (constantI S_ 32 0#32)
    reducesTo_S16x128x1152_S16x1152_d1 h_S_ j).2

/-- `nearest` by its definition, as functions of the position. -/
theorem nearest_def (D : FVec Ideal S16x128x1152 .f32) : nearest D = fun j =>
    (Host.argReduce reducer_argmin_f32_i32 D (iotaInDim S16x128x1152 32 1) (constant S_ .f32 0x7F800000#32) (constantI S_ 32 0#32)
      reducesTo_S16x128x1152_S16x1152_d1 h_S_ j).2 := rfl

/-- The mean affinity of each token to each class. -/
def affinities (D : FVec Ideal S16x128x1152 .f32) : FVec Ideal S16x1152x2 .f32 :=
  have v31 : FVec Ideal S16x1152x2x64 .f32 := transpose S16x1152x2x64 [0, 3, 1, 2] (shapeCast S16x2x64x1152 D shapeCasts_S16x128x1152_S16x2x64x1152)
    transposes_S16x2x64x1152_S16x1152x2x64_0_3_1_2
  have v34 : FVec Ideal S16x1152x2 .f32 := Host.reduceAdd (Host.exp (Host.negf v31)) (constant S_ .f32 0x00000000#32) reducesTo_S16x1152x2x64_S16x1152x2_d3 h_S_
  Host.divf v34 (broadcastInDim S16x1152x2 ![] bcast_S_S16x1152x2 (constant (F := Ideal) S_ .f32 0x42800000#32))

/-- Each class's share of a token. -/
def shares (A : FVec Ideal S16x1152x2 .f32) : FVec Ideal S16x1152x2 .f32 :=
  have v37 : FVec Ideal S16x1152 .f32 := Host.reduceAdd A (constant S_ .f32 0x00000000#32) reducesTo_S16x1152x2_S16x1152_d2 h_S_
  have v39 : FVec Ideal S16x1152 .f32 := addf v37 (broadcastInDim S16x1152 ![] bcast_S_S16x1152 (constant (F := Ideal) S_ .f32 0x358637BD#32))
  Host.divf A (broadcastInDim S16x1152x2 ![0, 1, 2] bcast_S16x1152x1_S16x1152x2_0_1_2 (broadcastInDim S16x1152x1 ![0, 1] bcast_S16x1152_S16x1152x1_0_1 v39))

/-- The nearest prototypes' numbers, counted over all batches. -/
def flat (K : IVec S16x1152 32) : IVec S16x1152 32 :=
  have v46 : IVec S16x1 32 := muli (broadcastInDim S16x1 ![0] bcast_S16_S16x1_0 (iotaInDim S16 32 0)) (broadcastInDim S16x1 ![] bcast_S_S16x1 (constantI S_ 32 128#32))
  addi K (broadcastInDim S16x1152 ![0, 1] bcast_S16x1_S16x1152_0_1 v46)

/-- The nearest prototypes' classes: the floor of a quotient by 64. -/
def classes (K : IVec S16x1152 32) : IVec S16x1152 32 :=
  have c : IVec S_ 32 := constantI S_ 32 64#32
  have v1 : IVec S16x1152 32 := broadcastInDim S16x1152 ![] bcast_S_S16x1152 c
  have v2 : IVec S16x1152 32 := Host.divsi K v1
  have v5 : IVec S16x1152 32 := broadcastInDim S16x1152 ![] bcast_S_S16x1152 (signi c)
  have v6 : IVec S16x1152 1 := cmpi .ne (signi K) v5
  have v10 : IVec S16x1152 1 := cmpi .ne (Host.remsi K v1) (broadcastInDim S16x1152 ![] bcast_S_S16x1152 (constantI S_ 32 0#32))
  have v13 : IVec S16x1152 32 := subi v2 (broadcastInDim S16x1152 ![] bcast_S_S16x1152 (constantI S_ 32 1#32))
  select (andi v6 v10) v13 v2

/-- The class axis' positions that the choice reads, a negative one counted from the end. -/
def positions (C : IVec S16x1152x1 32) : IVec S16x1152x1x1 32 :=
  have v1 : IVec S16x1152x1 1 := cmpi .slt C (broadcastInDim S16x1152x1 ![] bcast_S_S16x1152x1 (constantI S_ 32 0#32))
  have v3 : IVec S16x1152x1 32 := addi C (broadcastInDim S16x1152x1 ![] bcast_S_S16x1152x1 (constantI S_ 32 2#32))
  shapeCast S16x1152x1x1 (select v1 v3 C) shapeCasts_S16x1152x1_S16x1152x1x1

/-- Which of them are positions of the axis. -/
def inRange (I : IVec S16x1152x1x1 32) : IVec S16x1152x1 1 :=
  have v7 : IVec S16x1152x1x1 1 := cmpi .sge I (broadcastInDim S16x1152x1x1 ![] bcast_S_S16x1152x1x1 (constantI S_ 32 0#32))
  have v9 : IVec S16x1152x1x1 32 := broadcastInDim S16x1152x1x1 ![0, 1, 2, 3] bcast_S1x1x1x1_S16x1152x1x1_0_1_2_3
    (broadcastInDim S1x1x1x1 ![3] bcast_S1_S1x1x1x1_3 (constantI S1 32 1#32))
  Host.reduce IntOp.andi (andi v7 (cmpi .sle I v9)) (constantI S_ 1 1#1) reducesTo_S16x1152x1x1_S16x1152x1_d3 h_S_

/-- The shares at the chosen classes. -/
def chosen (S : FVec Ideal S16x1152x2 .f32) (C : IVec S16x1152x1 32) : FVec Ideal S16x1152x1 .f32 :=
  select (inRange (positions C)) (Host.gather gather_S16x1152x2_S16x1152x1x1_S16x1152x1_n_2_01_01_2_3_111 S (positions C))
    (broadcastInDim S16x1152x1 ![] bcast_S_S16x1152x1 (constant (F := Ideal) S_ .f32 0x7FC00000#32))

/-- The flat numbers in one column, a negative one counted from the end: where each update is added. -/
def targets (f : IVec S16x1152 32) : IVec S18432x1 32 :=
  have v52 : IVec S18432 32 := shapeCast S18432 f shapeCasts_S16x1152_S18432
  have v56 : IVec S18432 1 := cmpi .slt v52 (broadcastInDim S18432 ![] bcast_S_S18432 (constantI S_ 32 0#32))
  have v58 : IVec S18432 32 := addi v52 (broadcastInDim S18432 ![] bcast_S_S18432 (constantI S_ 32 2048#32))
  broadcastInDim S18432x1 ![0] bcast_S18432_S18432x1_0 (select v56 v58 v52)

/-- The totals at every prototype of every batch. -/
def totals (f : IVec S16x1152 32) (a : FVec Ideal S16x1152x1 .f32) : FVec Ideal S2048x1 .f32 :=
  addf (Host.scatterAdd scatter_S2048x1_S18432x1_S18432x1_1_0_0_1 (broadcastInDim S2048x1 ![] bcast_S_S2048x1 (constant (F := Ideal) S_ .f32 0x00000000#32))
      (targets f) (shapeCast S18432x1 a shapeCasts_S16x1152x1_S18432x1))
    (broadcastInDim S2048x1 ![] bcast_S_S2048x1 (constant (F := Ideal) S_ .f32 0x358637BD#32))

/-- The flat numbers as positions to read from, a negative one counted from the end. -/
def sources (f : IVec S16x1152 32) : IVec S16x1152x1 32 :=
  have v65 : IVec S16x1152 1 := cmpi .slt f (broadcastInDim S16x1152 ![] bcast_S_S16x1152 (constantI S_ 32 0#32))
  have v67 : IVec S16x1152 32 := addi f (broadcastInDim S16x1152 ![] bcast_S_S16x1152 (constantI S_ 32 2048#32))
  broadcastInDim S16x1152x1 ![0, 1] bcast_S16x1152_S16x1152x1_0_1 (select v65 v67 f)

/-- Each token's value over its prototype's total. -/
def normalized (f : IVec S16x1152 32) (a : FVec Ideal S16x1152x1 .f32) : FVec Ideal S16x1152x1 .f32 :=
  Host.divf a (Host.gather gather_S2048x1_S16x1152x1_S16x1152x1_2_0_n_n_0_2_11 (totals f a) (sources f))

/-- The tokens weighted by half of each of two columns. -/
def weighted (T : FVec Ideal S16x1152x512 .f32) (c s : FVec Ideal S16x1152x1 .f32) : FVec Ideal S16x1152x512 .f32 :=
  have h : FVec Ideal S16x1152x1 .f32 := broadcastInDim S16x1152x1 ![] bcast_S_S16x1152x1 (constant (F := Ideal) S_ .f32 0x3F000000#32)
  mulf T (broadcastInDim S16x1152x512 ![0, 1, 2] bcast_S16x1152x1_S16x1152x512_0_1_2 (addf (mulf h c) (mulf h s)))

/-- The weighted tokens added up at their prototypes. -/
def summed (f : IVec S16x1152 32) (U : FVec Ideal S16x1152x512 .f32) : FVec Ideal S16x128x512 .f32 :=
  shapeCast S16x128x512
    (Host.scatterAdd scatter_S2048x512_S18432x1_S18432x512_1_0_0_1 (broadcastInDim S2048x512 ![] bcast_S_S2048x512 (constant (F := Ideal) S_ .f32 0x00000000#32))
      (targets f) (shapeCast S18432x512 U shapeCasts_S16x1152x512_S18432x512))
    shapeCasts_S2048x512_S16x128x512

/-- The token's own class share, as a column. -/
def classColumn (D : FVec Ideal S16x128x1152 .f32) : FVec Ideal S16x1152x1 .f32 :=
  chosen (shares (affinities D)) (broadcastInDim S16x1152x1 ![0, 1] bcast_S16x1152_S16x1152x1_0_1 (classes (nearest D)))

/-- The reference's second result. -/
def indices (P : FVec Ideal S16x128x512 .f32) (X : FVec Ideal S16x1024x512 .f32) : IVec S16x1152 32 := nearest (distances P (joined P X))

/-- The reference's first result, from the tokens, their distances and their scores. -/
def mergedFrom (T : FVec Ideal S16x1152x512 .f32) (D : FVec Ideal S16x128x1152 .f32) (s : FVec Ideal S16x1152x1 .f32) : FVec Ideal S16x128x512 .f32 :=
  summed (flat (nearest D)) (weighted T (normalized (flat (nearest D)) (classColumn D)) (normalized (flat (nearest D)) s))

/-- The reference's first result. -/
def result (P : FVec Ideal S16x128x512 .f32) (X : FVec Ideal S16x1024x512 .f32) (W : FVec Ideal S512x1 .f32) (B : FVec Ideal S1 .f32) :
    FVec Ideal S16x128x512 .f32 :=
  mergedFrom (joined P X) (distances P (joined P X)) (scores (joined P X) W B)

end Cert.ReferenceIdeal.Stages

end
-- ==== Proof.Lands.lean ====
/- Where the reference's data movements land: the argmin over the prototypes, the two scatters that add rows, and the two gathers, each read at an index. -/
module

public import proofs.«01_k».proof.Proof.Gen.ReferenceIdeal
public import proofs.«01_k».proof.Proof.Model
public import Idealize.ShloMosaic.Lib.Routing.OpsPair

@[expose] public section

set_option maxRecDepth 16384

noncomputable section

namespace Cert.ReferenceIdeal.Lands

open Idealize.ShloMosaic Idealize.SL.Sem Cert.ReferenceIdeal Cert.ReferenceIdeal.Gen Cert.Merge
open Idealize.ShloMosaic.Routing (shape2)

/-! ## The argmin -/

/-- One step of the argmin keeps the left pair when its value is smaller, or equal with the smaller number, and the right pair otherwise. -/
theorem step_eq (a b : EReal × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  have hs : (IntOp.cmpi .slt a2 b2 : BitVec 1) = if a2.toInt < b2.toInt then 1#1 else 0#1 := by
    unfold IntOp.cmpi
    simp only [BitVec.slt_eq_decide]
    split
    · next h => rw [decide_eq_true h]; rfl
    · next h => rw [decide_eq_false h]; rfl
  unfold reducer_argmin_f32_i32
  simp only [Ideal.cmpf_def, Ideal.cmp, hs]
  by_cases h : a1 < b1
  · by_cases k : a2.toInt < b2.toInt <;> by_cases e : a1 = b1 <;> simp [h, k, e, Scalar.select, IntOp.ori, IntOp.andi]
  · by_cases e : a1 = b1
    · subst e
      by_cases k : a2.toInt < b2.toInt
      · simp [k, Scalar.select, IntOp.ori, IntOp.andi]
      · simp [k, Scalar.select, IntOp.ori, IntOp.andi]
    · simp [h, e, Scalar.select, IntOp.ori, IntOp.andi]

/-- The pair `p` comes no later than `q`: a smaller value, or the same value and a number not larger. -/
def NoLater (p q : EReal × BitVec 32) : Prop := p.1 < q.1 ∨ (p.1 = q.1 ∧ p.2.toInt ≤ q.2.toInt)

/-- Coming no later is transitive. -/
theorem NoLater.trans {p q r : EReal × BitVec 32} (h : NoLater p q) (h' : NoLater q r) : NoLater p r := by
  rcases h with h | ⟨e, h⟩
  · rcases h' with h' | ⟨e', _⟩
    · exact .inl (h.trans h')
    · exact .inl (e' ▸ h)
  · rcases h' with h' | ⟨e', h'⟩
    · exact .inl (e ▸ h')
    · exact .inr ⟨e.trans e', h.trans h'⟩

/-- One step of the argmin is one of its two pairs and comes no later than either. -/
theorem step_least (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  rw [step_eq]
  split
  · next h => exact ⟨.inl rfl, .inr ⟨rfl, le_rfl⟩, h.imp id fun h => ⟨h.1, h.2.le⟩⟩
  · next h =>
    have h1 := not_or.1 h
    refine ⟨.inr rfl, ?_, .inr ⟨rfl, le_rfl⟩⟩
    rcases lt_or_eq_of_le (not_lt.1 h1.1) with l | e
    · exact .inl l
    · exact .inr ⟨e, not_lt.1 fun k => h1.2 ⟨e.symm, k⟩⟩

/-- The argmin's fold over any list of pairs is the initial pair or one of the list's, and comes no later than any of them. -/
theorem fold_least (l : List (EReal × BitVec 32)) (p : EReal × BitVec 32) :
    (l.foldl (reducer_argmin_f32_i32 (F := Ideal)) p = p ∨ l.foldl (reducer_argmin_f32_i32 (F := Ideal)) p ∈ l)
      ∧ NoLater (l.foldl (reducer_argmin_f32_i32 (F := Ideal)) p) p ∧ ∀ q ∈ l, NoLater (l.foldl (reducer_argmin_f32_i32 (F := Ideal)) p) q := by
  induction l generalizing p with
  | nil => exact ⟨.inl rfl, .inr ⟨rfl, le_rfl⟩, fun q hq => (List.not_mem_nil hq).elim⟩
  | cons a l ih =>
    rw [List.foldl_cons]
    obtain ⟨hm, hp, hl⟩ := ih (reducer_argmin_f32_i32 (F := Ideal) p a)
    obtain ⟨sm, sp, sa⟩ := step_least p a
    refine ⟨?_, hp.trans sp, fun q hq => ?_⟩
    · rcases hm with e | m
      · rw [e]
        exact sm.imp id fun e' => by rw [e']; exact List.mem_cons_self
      · exact .inr (List.mem_cons_of_mem _ m)
    · rcases List.mem_cons.1 hq with e | m
      · exact e ▸ hp.trans sa
      · exact hl q m

/-- The argmin over the prototypes, at a token: the first smallest prototype's number. -/
theorem nearest_apply (D : FVec Ideal S16x128x1152 .f32) (b : Fin 16) (n : Fin 1152) :
    (Host.argReduce reducer_argmin_f32_i32 D (iotaInDim S16x128x1152 32 1) (constant S_ .f32 0x7F800000#32) (constantI S_ 32 0#32)
      reducesTo_S16x128x1152_S16x1152_d1 h_S_ (ix2 b n)).2 = BitVec.ofNat 32 (first fun q => D (ix3 b q n)).val := by
  rw [Ideal.argReduce_eq_reduce2, Host.reduce2_eq_foldl_fiber]
  have hmem : ∀ p : EReal × BitVec 32, p ∈ Host.argReduceFiber D (iotaInDim S16x128x1152 32 1) reducesTo_S16x128x1152_S16x1152_d1 (ix2 b n)
      ↔ ∃ q : Fin 128, p = (D (ix3 b q n), BitVec.ofNat 32 q.val) := fun p => by
    unfold Host.argReduceFiber
    rw [List.mem_map]
    constructor
    · rintro ⟨k, hk, rfl⟩
      have hd := of_decide_eq_true (List.mem_filter.1 hk).2
      generalize S16x128x1152.rowMajor.symm k = i at hd ⊢
      have h0 : i 0 = b := congrFun hd 0
      have h2 : i 2 = n := congrFun hd 1
      refine ⟨i 1, ?_⟩
      have e : i = ix3 b (i 1) n := by
        funext a
        match a with
        | ⟨0, _⟩ => exact h0
        | ⟨1, _⟩ => rfl
        | ⟨2, _⟩ => exact h2
      rw [e]
      rfl
    · rintro ⟨q, rfl⟩
      refine ⟨S16x128x1152.rowMajor (ix3 b q n), List.mem_filter.2 ⟨List.mem_finRange _, decide_eq_true ?_⟩, ?_⟩
      · rw [Equiv.symm_apply_apply]
        funext a
        match a with
        | ⟨0, _⟩ => rfl
        | ⟨1, _⟩ => rfl
      · rw [Equiv.symm_apply_apply]
        rfl
  obtain ⟨hm, hp, hl⟩ := fold_least (Host.argReduceFiber D (iotaInDim S16x128x1152 32 1) reducesTo_S16x128x1152_S16x1152_d1 (ix2 b n))
    (constant (F := Ideal) S_ .f32 0x7F800000#32 (Shape.Idx.first h_S_), constantI S_ 32 0#32 (Shape.Idx.first h_S_))
  generalize List.foldl (reducer_argmin_f32_i32 (F := Ideal)) _ _ = r at hm hp hl ⊢
  have hl' : ∀ q : Fin 128, NoLater r (D (ix3 b q n), BitVec.ofNat 32 q.val) := fun q => hl _ ((hmem _).2 ⟨q, rfl⟩)
  have hle : ∀ q : Fin 128, r.1 ≤ D (ix3 b q n) := fun q => (hl' q).elim le_of_lt fun h => h.1.le
  rcases hm with e | m
  · have ht : r.1 = ⊤ := by rw [e]; exact ofBits_top
    have hz : (0 : Fin 128) = first fun q => D (ix3 b q n) :=
      le_antisymm (Fin.zero_le _) (first_le_of _ _ fun q => le_top.trans (ht ▸ hle q))
    rw [← hz, e]
    rfl
  · obtain ⟨q, rfl⟩ := (hmem _).1 m
    rw [← eq_first (fun q => D (ix3 b q n)) q hle fun r' hr => ?_]
    rcases hl' r' with h | ⟨_, h⟩
    · exact absurd (hr q) (not_le.2 h)
    · simp only [toInt_row] at h
      exact_mod_cast h

/-! ## Adding rows -/

/-- Update `(i, y)` of a scatter of rows lands at `(r, c)` exactly when its row's word, read signed, is `r`, and `y` is `c`. -/
theorem lands_row {M N C : Nat} (d : ScatterDims (shape2 M C) (shape2 N 1) (shape2 N C)) (huw : d.updateWindowDims = [1])
    (hiw : d.insertedWindowDims = [0]) (hsd : d.scatterDimsToOperandDims = [0]) (hivd : d.indexVectorDim = 1)
    (idx : IVec (shape2 N 1) 32) (i : Fin N) (y : Fin C) (r : Fin M) (c : Fin C) :
    d.resultIdx? (ix2 i y) idx = some (ix2 r c) ↔ (idx (ix2 i (0 : Fin 1))).toInt = r.val ∧ y = c := by
  have hm : (0 : Fin 2) ∈ d.scatterDimsToOperandDims := by rw [hsd]; exact List.mem_singleton.2 rfl
  have hu : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hw : ∀ k ∈ d.updateWindowDims, k = (1 : Fin 2) := fun k hk => by rw [huw] at hk; exact List.mem_singleton.1 hk
  have e0 : ∀ X : Fin 2, X = 0 → ((ix2 i y : (shape2 N C).Idx) X).val = i.val := fun X h => by subst h; rfl
  have e1 : ∀ X : Fin 2, X = 1 → ((ix2 i y : (shape2 N C).Idx) X).val = y.val := fun X h => by subst h; rfl
  have hwin0 : d.window (ix2 i y) 0 = 0 := by
    unfold ScatterDims.window
    rw [dif_neg fun h => (of_decide_eq_true (List.mem_filter.1 h).2) (by rw [hiw]; exact List.mem_singleton.2 rfl)]
  have hwin1 : d.window (ix2 i y) 1 = y.val := by
    have hk : (1 : Fin 2) ∈ d.sKept := List.mem_filter.2 ⟨List.mem_finRange _, decide_eq_true (by rw [hiw]; exact fun h => by simp at h)⟩
    unfold ScatterDims.window
    rw [dif_pos hk]
    exact e1 _ (hw _ (List.getElem_mem _))
  have hstart1 : d.start (ix2 i y) idx 1 = 0 := by
    unfold ScatterDims.start
    rw [dif_neg (by rw [hsd]; exact fun h => by simp at h)]
  have hstart0 : d.start (ix2 i y) idx 0 = (idx (ix2 i (0 : Fin 1))).toInt := by
    unfold ScatterDims.start
    rw [dif_pos hm]
    have hsi : d.siIdx (ix2 i y) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hu _ (List.getElem_mem _))
      | ⟨1, _⟩ =>
        unfold ScatterDims.siIdx
        rw [dif_pos (by rw [hivd])]
        show List.idxOf (0 : Fin 2) d.scatterDimsToOperandDims = 0
        rw [hsd]; simp
    rw [hsi]
  refine (Routing.resultIdx?_ix2 d _ idx r c).trans ?_
  rw [hstart0, hstart1, hwin0, hwin1]
  constructor
  · rintro ⟨h, h'⟩
    exact ⟨by omega, Fin.ext (by omega)⟩
  · rintro ⟨h, rfl⟩
    exact ⟨by omega, by omega⟩

/-- A scatter that adds rows, at `(r, c)`: what was there plus the updates whose row's word, read signed, is `r`. -/
theorem scatter_rows {M N C : Nat} (d : ScatterDims (shape2 M C) (shape2 N 1) (shape2 N C)) (huw : d.updateWindowDims = [1])
    (hiw : d.insertedWindowDims = [0]) (hsd : d.scatterDimsToOperandDims = [0]) (hivd : d.indexVectorDim = 1)
    (x : FVec Ideal (shape2 M C) .f32) (idx : IVec (shape2 N 1) 32) (upd : FVec Ideal (shape2 N C) .f32) (r : Fin M) (c : Fin C) :
    Host.scatterAdd d x idx upd (ix2 r c)
      = x (ix2 r c) + ∑ i : Fin N, if (idx (ix2 i (0 : Fin 1))).toInt = r.val then upd (ix2 i c) else 0 := by
  show Ideal.hostScatterAdd d x idx upd (ix2 r c) = _
  unfold Ideal.hostScatterAdd
  refine congrArg (x (ix2 r c) + ·) ?_
  rw [Finset.sum_filter, sum_idx2]
  refine Finset.sum_congr rfl fun i _ => ?_
  rw [Finset.sum_eq_single c]
  · refine if_congr ?_ rfl rfl
    rw [lands_row d huw hiw hsd hivd]
    exact and_iff_left rfl
  · intro y _ hy
    rw [if_neg fun h => hy ((lands_row d huw hiw hsd hivd idx i y r c).1 h).2]
  · intro h; exact (h (Finset.mem_univ _)).elim

/-! ## Reading at chosen positions -/

/-- The gather of totals, where the position at a token is a row of the table: that row's total. -/
theorem gather_total (x : FVec Ideal S2048x1 .f32) (idx : IVec S16x1152x1 32) (b : Fin 16) (n : Fin 1152) (r : Fin 2048)
    (h : (idx (ix3 b n 0)).toInt = r.val) :
    Host.gather gather_S2048x1_S16x1152x1_S16x1152x1_2_0_n_n_0_2_11 x idx (ix3 b n 0) = x (ix2 r 0) := by
  unfold Host.gather
  refine congrArg x (funext fun a => Fin.ext ?_)
  have hr := r.isLt
  match a with
  | ⟨0, _⟩ =>
    have e : (GatherDims.siIdx gather_S2048x1_S16x1152x1_S16x1152x1_2_0_n_n_0_2_11 (ix3 b n 0 : S16x1152x1.Idx) ⟨0, by decide⟩ : S16x1152x1.Idx) = ix3 b n 0 := by
      funext a'
      match a' with
      | ⟨0, _⟩ => rfl
      | ⟨1, _⟩ => rfl
      | ⟨2, _⟩ => rfl
    show min (idx (GatherDims.siIdx gather_S2048x1_S16x1152x1_S16x1152x1_2_0_n_n_0_2_11 (ix3 b n 0 : S16x1152x1.Idx) ⟨0, by decide⟩)).toInt.toNat (2048 - 1) + 0 + 0 = r.val
    rw [e, h]
    omega
  | ⟨1, _⟩ => rfl

/-- The gather of class shares, where the position at a token is a class: the token's share of that class. -/
theorem gather_share (x : FVec Ideal S16x1152x2 .f32) (idx : IVec S16x1152x1x1 32) (b : Fin 16) (n : Fin 1152) (k : Fin 2)
    (h : (idx (ix4 b n 0 0)).toInt = k.val) :
    Host.gather gather_S16x1152x2_S16x1152x1x1_S16x1152x1_n_2_01_01_2_3_111 x idx (ix3 b n 0) = x (ix3 b n k) := by
  unfold Host.gather
  refine congrArg x (funext fun a => Fin.ext ?_)
  have hk := k.isLt
  match a with
  | ⟨0, _⟩ =>
    show 0 + b.val + 0 = b.val
    omega
  | ⟨1, _⟩ =>
    show 0 + n.val + 0 = n.val
    omega
  | ⟨2, _⟩ =>
    have e : (GatherDims.siIdx gather_S16x1152x2_S16x1152x1x1_S16x1152x1_n_2_01_01_2_3_111 (ix3 b n 0 : S16x1152x1.Idx) ⟨0, by decide⟩ : S16x1152x1x1.Idx)
        = ix4 b n 0 0 := by
      funext a'
      match a' with
      | ⟨0, _⟩ => rfl
      | ⟨1, _⟩ => rfl
      | ⟨2, _⟩ => rfl
      | ⟨3, _⟩ => rfl
    show min (idx (GatherDims.siIdx gather_S16x1152x2_S16x1152x1x1_S16x1152x1_n_2_01_01_2_3_111 (ix3 b n 0 : S16x1152x1.Idx) ⟨0, by decide⟩)).toInt.toNat (2 - 1) + 0 + 0 = k.val
    rw [e, h]
    omega

end Cert.ReferenceIdeal.Lands

end
-- ==== Proof.Read.lean ====
/- The reference's stages read at an index, as the functions of `Cert.Merge`; at the end, its two results. -/
module

public import proofs.«01_k».proof.Proof.Stages
public import proofs.«01_k».proof.Proof.Lands

@[expose] public section

set_option maxRecDepth 16384

noncomputable section

namespace Cert.ReferenceIdeal.Read

open Idealize.ShloMosaic Idealize.SL.Sem Cert.ReferenceIdeal Cert.ReferenceIdeal.Gen Cert.Merge Cert.ReferenceIdeal.Stages Cert.ReferenceIdeal.Lands

/-! ## The float stages -/

/-- The joined tokens of batch `b` are the model's tokens. -/
theorem joined_apply (P : FVec Ideal S16x128x512 .f32) (X : FVec Ideal S16x1024x512 .f32) (b : Fin 16) (n : Fin 1152) (k : Fin 512) :
    joined P X (ix3 b n k) = tokens (fun q k => P (ix3 b q k)) (fun m k => X (ix3 b m k)) n k := by
  pointwise [joined, tokens]

/-- The score of a token. -/
theorem scores_apply (T : FVec Ideal S16x1152x512 .f32) (W : FVec Ideal S512x1 .f32) (B : FVec Ideal S1 .f32) (b : Fin 16) (n : Fin 1152) :
    scores T W B (ix3 b n 0) = score (fun n k => T (ix3 b n k)) (fun k => W (ix2 k 0)) (B (ix1 0)) n := by
  pointwise [scores, score]
  rw [zero_sub]

/-- The scaled distance of a prototype and a token. -/
theorem distances_apply (P : FVec Ideal S16x128x512 .f32) (T : FVec Ideal S16x1152x512 .f32) (b : Fin 16) (q : Fin 128) (n : Fin 1152) :
    distances P T (ix3 b q n) = Merge.dist (fun q k => P (ix3 b q k)) (fun n k => T (ix3 b n k)) q n := by
  pointwise [distances, Merge.dist]
  rw [div_root, max_comm]

/-- The mean affinity of a token to a class. -/
theorem affinities_apply (D : FVec Ideal S16x128x1152 .f32) (b : Fin 16) (n : Fin 1152) (h : Fin 2) :
    affinities D (ix3 b n h) = affinity (fun q n => D (ix3 b q n)) n h := by
  pointwise [affinities, affinity]
  rw [div_64]
  simp only [zero_sub]
  rfl

/-- A class's share of a token. -/
theorem shares_apply (A : FVec Ideal S16x1152x2 .f32) (b : Fin 16) (n : Fin 1152) (h : Fin 2) :
    shares A (ix3 b n h) = Ideal.div (A (ix3 b n h)) (A (ix3 b n 0) + A (ix3 b n 1) + tiny) := by
  pointwise [shares]
  rw [Fin.sum_univ_two]

/-- A token weighted by half of each of two columns. -/
theorem weighted_apply (T : FVec Ideal S16x1152x512 .f32) (c s : FVec Ideal S16x1152x1 .f32) (b : Fin 16) (n : Fin 1152) (k : Fin 512) :
    weighted T c s (ix3 b n k) = T (ix3 b n k) * (half * c (ix3 b n 0) + half * s (ix3 b n 0)) := by
  pointwise [weighted]

/-! ## The words -/

/-- A word made from a number below 2³¹ reads, signed, as that number. -/
theorem toInt_word (x : ℕ) (h : x < 2147483648) : (BitVec.ofNat 32 x).toInt = (x : Int) := by
  rw [BitVec.toInt_eq_toNat_of_lt (by rw [BitVec.toNat_ofNat]; omega), BitVec.toNat_ofNat]
  omega

/-- A word made from a number below 2³¹ is not counted from the end of an axis. -/
theorem wrap_word (x : ℕ) (h : x < 2147483648) (a : BitVec 32) :
    Scalar.select (IntOp.cmpi .slt (BitVec.ofNat 32 x) 0#32) a (BitVec.ofNat 32 x) = BitVec.ofNat 32 x :=
  Routing.wrap_of_lt _ _ (by rw [BitVec.toNat_ofNat]; omega)

/-- A prototype's number counted over all batches. -/
theorem flat_apply (K : IVec S16x1152 32) (b : Fin 16) (n : Fin 1152) (q : Fin 128) (h : K (ix2 b n) = BitVec.ofNat 32 q.val) :
    flat K (ix2 b n) = BitVec.ofNat 32 (b.val * 128 + q.val) := by
  pointwise [flat]
  rw [h]
  apply BitVec.eq_of_toNat_eq
  have := b.isLt
  have := q.isLt
  simp only [IntOp.addi, IntOp.muli, BitVec.toNat_add, BitVec.toNat_mul, BitVec.toNat_ofNat]
  omega

set_option maxHeartbeats 1600000 in
/-- The floor of a prototype's number by 64 is its class' number. -/
theorem classes_apply (K : IVec S16x1152 32) (b : Fin 16) (n : Fin 1152) (q : Fin 128) (h : K (ix2 b n) = BitVec.ofNat 32 q.val) :
    classes K (ix2 b n) = BitVec.ofNat 32 (classOf q).val := by
  pointwise [classes, classOf]
  rw [h]
  clear h
  revert q
  decide

/-- A class' number is a position of the class axis. -/
theorem positions_apply (C : IVec S16x1152x1 32) (b : Fin 16) (n : Fin 1152) (h : Fin 2) (hC : C (ix3 b n 0) = BitVec.ofNat 32 h.val) :
    positions C (ix4 b n 0 0) = BitVec.ofNat 32 h.val := by
  pointwise [positions]
  have := h.isLt
  rw [hC, wrap_word _ (by omega)]

/-- A class' number is in range. -/
theorem inRange_apply (I : IVec S16x1152x1x1 32) (b : Fin 16) (n : Fin 1152) (h : Fin 2) (hI : I (ix4 b n 0 0) = BitVec.ofNat 32 h.val) :
    inRange I (ix3 b n 0) = 1#1 := by
  pointwise [inRange]
  rw [Finset.univ_unique, Finset.fold_singleton]
  rw [show (default : Fin 1) = 0 from rfl, hI]
  clear hI
  revert h
  decide

/-- The share at the chosen class. -/
theorem chosen_apply (S : FVec Ideal S16x1152x2 .f32) (C : IVec S16x1152x1 32) (b : Fin 16) (n : Fin 1152) (h : Fin 2)
    (hC : C (ix3 b n 0) = BitVec.ofNat 32 h.val) : chosen S C (ix3 b n 0) = S (ix3 b n h) := by
  have hp := positions_apply C b n h hC
  have hlt := h.isLt
  pointwise [chosen]
  rw [inRange_apply _ b n h hp, gather_share S (positions C) b n h (by rw [hp, toInt_word _ (by omega)])]
  rfl

/-- The place of batch `b`'s token `n` among all tokens. -/
def place (b : Fin 16) (n : Fin 1152) : Fin 18432 := ⟨b.val * 1152 + n.val, by have := b.isLt; have := n.isLt; omega⟩

/-- The place of batch `b`'s prototype `q` among all prototypes. -/
def row (b : Fin 16) (q : Fin 128) : Fin 2048 := ⟨b.val * 128 + q.val, by have := b.isLt; have := q.isLt; omega⟩

/-- The batch of a token's place is its quotient by 1152. -/
theorem place_div (b : Fin 16) (n : Fin 1152) (h : (place b n).val / 1152 < 16) : (⟨(place b n).val / 1152, h⟩ : Fin 16) = b :=
  Fin.ext (by have := n.isLt; show (b.val * 1152 + n.val) / 1152 = b.val; omega)

/-- The token of a token's place is its remainder by 1152. -/
theorem place_mod (b : Fin 16) (n : Fin 1152) (h : (place b n).val % 1152 < 1152) : (⟨(place b n).val % 1152, h⟩ : Fin 1152) = n :=
  Fin.ext (by have := n.isLt; show (b.val * 1152 + n.val) % 1152 = n.val; omega)

section Rows

variable (κ : Fin 16 → Fin 1152 → Fin 128) (f : IVec S16x1152 32) (hf : ∀ b n, f (ix2 b n) = BitVec.ofNat 32 (b.val * 128 + (κ b n).val))
include hf

/-- The word at a token's place is its prototype's place. -/
theorem targets_apply (b : Fin 16) (n : Fin 1152) : targets f (ix2 (place b n) 0) = BitVec.ofNat 32 (row b (κ b n)).val := by
  pointwise [targets]
  have := (row b (κ b n)).isLt
  rw [place_div, place_mod, hf]
  exact wrap_word _ (by omega) _

/-- The position that a token reads is its prototype's place. -/
theorem sources_apply (b : Fin 16) (n : Fin 1152) : sources f (ix3 b n 0) = BitVec.ofNat 32 (row b (κ b n)).val := by
  pointwise [sources]
  have := (row b (κ b n)).isLt
  rw [hf]
  exact wrap_word _ (by omega) _

/-- What lands at a prototype's place, over the tokens of all batches, is what its own batch's tokens send to it. -/
theorem sum_landed (g : Fin 18432 → EReal) (b : Fin 16) (q : Fin 128) :
    (∑ i, if (targets f (ix2 i 0)).toInt = ((row b q).val : Int) then g i else 0) = collect (κ b) (fun n => g (place b n)) q := by
  have e : (∑ i, if (targets f (ix2 i 0)).toInt = ((row b q).val : Int) then g i else 0)
      = ∑ b' : Fin 16, ∑ n : Fin 1152, if (targets f (ix2 (place b' n) 0)).toInt = ((row b q).val : Int) then g (place b' n) else 0 :=
    Fin.sum_univ_tiles 16 1152 rfl fun i : Fin 18432 => if (targets f (ix2 i 0)).toInt = ((row b q).val : Int) then g i else 0
  have hw : ∀ (b' : Fin 16) (n : Fin 1152), (targets f (ix2 (place b' n) 0)).toInt = ((row b q).val : Int) ↔ b' = b ∧ κ b' n = q := fun b' n => by
    have h1 := (row b' (κ b' n)).isLt
    rw [targets_apply κ f hf, toInt_word _ (by omega)]
    have h2 := (κ b' n).isLt
    have h3 := q.isLt
    constructor
    · intro h
      have h' : b'.val * 128 + (κ b' n).val = b.val * 128 + q.val := by exact_mod_cast h
      exact ⟨Fin.ext (by omega), Fin.ext (by omega)⟩
    · rintro ⟨rfl, rfl⟩
      rfl
  rw [e, Finset.sum_eq_single b]
  · unfold collect
    exact Finset.sum_congr rfl fun n _ => if_congr ((hw b n).trans (and_iff_right rfl)) rfl rfl
  · intro b' _ hb
    exact Finset.sum_eq_zero fun n _ => if_neg fun h => hb ((hw b' n).1 h).1
  · intro h; exact (h (Finset.mem_univ _)).elim

/-- The total at a prototype's place. -/
theorem totals_apply (a : FVec Ideal S16x1152x1 .f32) (b : Fin 16) (q : Fin 128) :
    totals f a (ix2 (row b q) 0) = collect (κ b) (fun n => a (ix3 b n 0)) q + tiny := by
  have hz : (broadcastInDim S2048x1 ![] bcast_S_S2048x1 (constant (F := Ideal) S_ .f32 0x00000000#32) : FVec Ideal S2048x1 .f32) (ix2 (row b q) 0) = 0 := by
    pointwise [constant]
  have hc : ∀ n, (shapeCast S18432x1 a shapeCasts_S16x1152x1_S18432x1 : FVec Ideal S18432x1 .f32) (ix2 (place b n) 0) = a (ix3 b n 0) := fun n => by
    pointwise [shapeCast]
    rw [place_div, place_mod]
  show Host.scatterAdd scatter_S2048x1_S18432x1_S18432x1_1_0_0_1 _ (targets f) (shapeCast S18432x1 a shapeCasts_S16x1152x1_S18432x1) (ix2 (row b q) 0) + tiny = _
  refine congrArg (· + tiny) ?_
  refine (scatter_rows scatter_S2048x1_S18432x1_S18432x1_1_0_0_1 rfl rfl rfl rfl _ (targets f) _ (row b q) 0).trans ?_
  rw [hz, zero_add, sum_landed κ f hf (fun i => (shapeCast S18432x1 a shapeCasts_S16x1152x1_S18432x1 : FVec Ideal S18432x1 .f32) (ix2 i 0)) b q]
  simp only [hc]

/-- A column over its totals. -/
theorem normalized_apply (a : FVec Ideal S16x1152x1 .f32) (b : Fin 16) (n : Fin 1152) :
    normalized f a (ix3 b n 0) = normed (κ b) (fun n => a (ix3 b n 0)) n := by
  have h1 := (row b (κ b n)).isLt
  pointwise [normalized]
  rw [gather_total (totals f a) (sources f) b n (row b (κ b n)) (by rw [sources_apply κ f hf, toInt_word _ (by omega)]), totals_apply κ f hf, normed]

/-- The rows added up at a prototype. -/
theorem summed_apply (U : FVec Ideal S16x1152x512 .f32) (b : Fin 16) (q : Fin 128) (k : Fin 512) :
    summed f U (ix3 b q k) = collect (κ b) (fun n => U (ix3 b n k)) q := by
  have hz : (broadcastInDim S2048x512 ![] bcast_S_S2048x512 (constant (F := Ideal) S_ .f32 0x00000000#32) : FVec Ideal S2048x512 .f32) (ix2 (row b q) k) = 0 := by
    pointwise [constant]
  have hc : ∀ n, (shapeCast S18432x512 U shapeCasts_S16x1152x512_S18432x512 : FVec Ideal S18432x512 .f32) (ix2 (place b n) k) = U (ix3 b n k) := fun n => by
    pointwise [shapeCast]
    rw [place_div, place_mod]
  have hs : ∀ Z : FVec Ideal S2048x512 .f32, (shapeCast S16x128x512 Z shapeCasts_S2048x512_S16x128x512 : FVec Ideal S16x128x512 .f32) (ix3 b q k)
      = Z (ix2 (row b q) k) := fun Z => by
    pointwise [shapeCast]
    rfl
  unfold summed
  rw [hs]
  refine (scatter_rows scatter_S2048x512_S18432x1_S18432x512_1_0_0_1 rfl rfl rfl rfl _ (targets f) _ (row b q) k).trans ?_
  rw [hz, zero_add, sum_landed κ f hf (fun i => (shapeCast S18432x512 U shapeCasts_S16x1152x512_S18432x512 : FVec Ideal S18432x512 .f32) (ix2 i k)) b q]
  simp only [hc]

end Rows

/-! ## The results -/

/-- The nearest prototype's number, at a token. -/
theorem nearest_near (D : FVec Ideal S16x128x1152 .f32) (b : Fin 16) (n : Fin 1152) :
    nearest D (ix2 b n) = BitVec.ofNat 32 (near (fun q n => D (ix3 b q n)) n).val := by
  rw [nearest_def]
  exact nearest_apply D b n

/-- A table of words as one column per batch. -/
theorem column_apply (K : IVec S16x1152 32) (b : Fin 16) (n : Fin 1152) :
    (broadcastInDim S16x1152x1 ![0, 1] bcast_S16x1152_S16x1152x1_0_1 K : IVec S16x1152x1 32) (ix3 b n 0) = K (ix2 b n) := by
  pointwise [constantI]

/-- The class share of a token's nearest prototype. -/
theorem classColumn_apply (D : FVec Ideal S16x128x1152 .f32) (b : Fin 16) (n : Fin 1152) :
    classColumn D (ix3 b n 0) = classWeight (fun q n => D (ix3 b q n)) n := by
  unfold classColumn
  have hk : (broadcastInDim S16x1152x1 ![0, 1] bcast_S16x1152_S16x1152x1_0_1 (classes (nearest D)) : IVec S16x1152x1 32) (ix3 b n 0)
      = BitVec.ofNat 32 (classOf (near (fun q n => D (ix3 b q n)) n)).val := by
    rw [column_apply]
    exact classes_apply (nearest D) b n _ (nearest_near D b n)
  rw [chosen_apply _ _ b n _ hk, shares_apply, affinities_apply, affinities_apply, affinities_apply]
  rfl

/-- The first result from any tokens, distances and scores. -/
theorem mergedFrom_apply (T : FVec Ideal S16x1152x512 .f32) (D : FVec Ideal S16x128x1152 .f32) (s : FVec Ideal S16x1152x1 .f32)
    (b : Fin 16) (q : Fin 128) (k : Fin 512) :
    mergedFrom T D s (ix3 b q k) = merged (near fun q n => D (ix3 b q n)) (classWeight fun q n => D (ix3 b q n)) (fun n => s (ix3 b n 0))
      (fun n k => T (ix3 b n k)) q k := by
  have hf : ∀ b n, flat (nearest D) (ix2 b n) = BitVec.ofNat 32 (b.val * 128 + (near (fun q n => D (ix3 b q n)) n).val) := fun b n =>
    flat_apply (nearest D) b n _ (nearest_near D b n)
  unfold mergedFrom
  rw [summed_apply (fun b => near fun q n => D (ix3 b q n)) _ hf]
  simp only [weighted_apply, normalized_apply (fun b => near fun q n => D (ix3 b q n)) _ hf, classColumn_apply]
  rfl

/-- The distances of a batch are the model's. -/
theorem batch_distances (P : FVec Ideal S16x128x512 .f32) (X : FVec Ideal S16x1024x512 .f32) (b : Fin 16) :
    (fun q n => distances P (joined P X) (ix3 b q n)) = batchDist (fun b q k => P (ix3 b q k)) (fun b n k => X (ix3 b n k)) b := by
  funext q n
  rw [distances_apply]
  simp only [joined_apply]

/-- The second result at an index. -/
theorem indices_apply (P : FVec Ideal S16x128x512 .f32) (X : FVec Ideal S16x1024x512 .f32) (b : Fin 16) (n : Fin 1152) :
    indices P X (ix2 b n) = indexAt (fun b q k => P (ix3 b q k)) (fun b n k => X (ix3 b n k)) b n := by
  unfold indices indexAt
  rw [nearest_near, batch_distances]

/-- The first result at an index. -/
theorem result_apply (P : FVec Ideal S16x128x512 .f32) (X : FVec Ideal S16x1024x512 .f32) (W : FVec Ideal S512x1 .f32) (B : FVec Ideal S1 .f32)
    (b : Fin 16) (q : Fin 128) (k : Fin 512) :
    result P X W B (ix3 b q k)
      = mergedAt (fun b q k => P (ix3 b q k)) (fun b n k => X (ix3 b n k)) (fun k => W (ix2 k 0)) (B (ix1 0)) b q k := by
  unfold result mergedAt
  rw [mergedFrom_apply, batch_distances]
  simp only [scores_apply, joined_apply]

end Cert.ReferenceIdeal.Read

end
-- ==== Proof.RefRun.lean ====
/- The reference's run: its two results are the stages of `Proof/Stages.lean` composed, over its argument arrays. -/
module

public import proofs.«01_k».proof.Proof.Stages
public import Idealize.ShloMosaic.Lib.Claim
public import Idealize.ShloMosaic.Adequacy
public import Idealize.ShloMosaic.Init

@[expose] public section

set_option maxRecDepth 400000

noncomputable section

namespace Cert.ReferenceIdeal.RefRun

open Idealize.ShloMosaic Idealize.SL.Sem Cert.ReferenceIdeal Cert.ReferenceIdeal.Gen

set_option maxHeartbeats 3200000 in
/-- From any memory the reference runs to its end, its results the composed stages over its arguments, and its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v107) = Stages.result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v29) = Stages.indices (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  · simp only [StableHlo.TRef.ofBuf, StableHlo.TRef.toBuf, cast_eq]
    unfold Stages.result Stages.mergedFrom Stages.summed
    refine congrArg (fun z => shapeCast S16x128x512 z _) ?_
    rfl
  · rfl

end Cert.ReferenceIdeal.RefRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Final
public import proofs.«01_k».proof.Proof.Read
public import proofs.«01_k».proof.Proof.RefRun
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The kernel runs to its end, leaves its arguments unchanged and every semaphore counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the reference, which has no semaphores. -/
theorem frame_referenceIdeal : Cert.quiescent_ReferenceIdeal := fun m ρ _ =>
  θ_run_mono (Cert.ReferenceIdeal.RefRun.run m ρ) fun _ h => ⟨fun c => (h c).2.2, sem_eq_zero_of_no_sems (by decide) _⟩

/-- The kernel's one named constant has the value that its name stands for. -/
theorem named : Cert.preserves_Kernel_KernelIdeal :=
  IdealRules.named_const.statement Cert.KernelIdeal.κ "inv_root_dim" .f32 0x3D3504F3#32 _ rfl

/-- The kernel's merged prototypes are the reference's: both are the model's, entry by entry. -/
theorem merged_eq (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 4 (Cert.KernelIdeal.cfgs 0).N
      = Cert.ReferenceIdeal.Stages.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.Final.final_out]
  funext j
  rw [eq_ix3 (n0 := 16) (n1 := 128) (n2 := 512) j]
  exact (Cert.ReferenceIdeal.Read.result_apply _ _ _ _ (j 0) (j 1) (j 2)).symm

/-- The kernel's indices are the reference's. -/
theorem indices_eq (m : (ℓ : Loc Cert.KernelIdeal.nD Cert.KernelIdeal.τ Cert.KernelIdeal.sig) → Buf (Elt Ideal) ℓ) (c : Dev Cert.KernelIdeal.nD) :
    (fun j : Cert.KernelIdeal.S16x1152.Idx => Cert.Merge.indexAt (Cert.KernelIdeal.Final.argP m c) (Cert.KernelIdeal.Final.argX m c) (j 0) (j 1))
      = Cert.ReferenceIdeal.Stages.indices (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext j
  rw [eq_ix2 (n0 := 16) (n1 := 1152) j]
  exact (Cert.ReferenceIdeal.Read.indices_apply _ _ (j 0) (j 1)).symm

/-- Over the extended reals the kernel and the reference compute the same two results. -/
theorem same_results : Cert.algebraic_KernelIdeal_ReferenceIdeal := by
  pair_intro
  · run_from Cert.KernelIdeal.Gen.unchanged m g & Cert.KernelIdeal.Gen.run_main m g
  · refine θ_run_mono (Cert.ReferenceIdeal.RefRun.run m' g') fun r h c => ?_
    obtain ⟨a0, a1, a2, a3⟩ := hagree c
    obtain ⟨e0, e1, unchanged⟩ := h c
    rw [a0, a1, a2, a3] at e0
    rw [a0, a1] at e1
    exact ⟨e0.trans (merged_eq m c).symm, e1.trans ((indices_eq m c).symm.trans (Cert.KernelIdeal.Final.final_idx2 m c).symm), unchanged⟩

/-- The five claims. -/
theorem claim : Cert.Claim := ⟨Cert.Kernel.Gen.facts, Cert.KernelIdeal.Gen.facts, Cert.ReferenceIdeal.Gen.facts,
  frame_kernel, frame_kernelIdeal, frame_referenceIdeal, named, same_results⟩

end Cert.Proof

end
